-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_uniform [hPre_uniform : Cert.Pre_uniform.Facts] (m : (ℓ : Loc Cert.KernelIdeal.nD Cert.KernelIdeal.τ Cert.KernelIdeal.sig) → Buf (Elt Ideal) ℓ) : Prop :=
  ∀ c : Dev Cert.KernelIdeal.nD,
    (Cert.Pre_uniform.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_uniform [hPre_uniform : Cert.Pre_uniform.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_uniform.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_uniform [hKernelIdeal : Cert.KernelIdeal.Facts] [hPre_uniform : Cert.Pre_uniform.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_uniform m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_uniform [hReferenceIdeal : Cert.ReferenceIdeal.Facts] [hPre_uniform : Cert.Pre_uniform.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_uniform m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_uniform [hKernelIdeal : Cert.KernelIdeal.Facts] [hReferenceIdeal : Cert.ReferenceIdeal.Facts] [hPre_uniform : Cert.Pre_uniform.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_uniform m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v49) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_uniform : Cert.Pre_uniform.Facts),
    quiescent_Kernel (hKernel := hKernel)
    ∧ quiescent_KernelIdeal (hKernelIdeal := hKernelIdeal)
    ∧ quiescent_KernelIdeal_pre_uniform (hKernelIdeal := hKernelIdeal) (hPre_uniform := hPre_uniform)
    ∧ quiescent_ReferenceIdeal (hReferenceIdeal := hReferenceIdeal)
    ∧ quiescent_ReferenceIdeal_pre_uniform (hReferenceIdeal := hReferenceIdeal) (hPre_uniform := hPre_uniform)
    ∧ preserves_Kernel_KernelIdeal
    ∧ algebraic_KernelIdeal_ReferenceIdeal_pre_uniform (hKernelIdeal := hKernelIdeal) (hReferenceIdeal := hReferenceIdeal) (hPre_uniform := hPre_uniform)
-- ==== Pre_uniform.lean ====
abbrev S16384x1024 : Shape := ⟨2, ![16384, 1024]⟩
abbrev S512 : Shape := ⟨1, ![512]⟩
abbrev S16 : Shape := ⟨1, ![16]⟩
abbrev S_ : Shape := ⟨0, ![]⟩

class Facts : Prop where
  bcast_S_S512 : S_.BroadcastsInDim S512 (![] : Fin 0 → Fin S512.rank)
  reducesTo_S512_S_d0 : S512.ReducesTo [0] S_
  h_S_ : 0 < S_.numel
  bcast_S_S16 : S_.BroadcastsInDim S16 (![] : Fin 0 → Fin S16.rank)
  reducesTo_S16_S_d0 : S16.ReducesTo [0] S_

variable [Facts]

def fn {F : FTy → Type} [FloatOps F] (main_arg0 : FVec F S16384x1024 .f32) (main_arg1 : IVec S512 32) (main_arg2 : IVec S16 32) : IVec S_ 1 :=
  let main_c : IVec S_ 32 := constantI S_ 32 32#32
  let main_v0 : IVec S512 32 := broadcastInDim S512 ![] bcast_S_S512 main_c
  let main_v1 : IVec S512 1 := cmpi .eq main_arg1 main_v0
  let main_c_0 : IVec S_ 1 := constantI S_ 1 1#1
  let main_v2 : IVec S_ 1 := (fun x v => Host.reduce IntOp.andi x v reducesTo_S512_S_d0 h_S_) main_v1 main_c_0
  let main_c_1 : IVec S_ 32 := constantI S_ 32 32#32
  let main_v3 : IVec S16 32 := broadcastInDim S16 ![] bcast_S_S16 main_c_1
  let main_v4 : IVec S16 1 := cmpi .eq main_arg2 main_v3
  let main_c_2 : IVec S_ 1 := constantI S_ 1 1#1
  let main_v5 : IVec S_ 1 := (fun x v => Host.reduce IntOp.andi x v reducesTo_S16_S_d0 h_S_) main_v4 main_c_2
  let main_v6 : IVec S_ 1 := andi main_v2 main_v5
  main_v6
-- ==== Kernel.lean ====
abbrev S16384x1024 : Shape := ⟨2, ![16384, 1024]⟩
abbrev S512 : Shape := ⟨1, ![512]⟩
abbrev S16 : Shape := ⟨1, ![16]⟩
abbrev S4x1024 : Shape := ⟨2, ![4, 1024]⟩
abbrev S32x128 : Shape := ⟨2, ![32, 128]⟩
abbrev S128 : Shape := ⟨1, ![128]⟩
abbrev S_ : Shape := ⟨0, ![]⟩
abbrev S1x16 : Shape := ⟨2, ![1, 16]⟩
abbrev S1x128 : Shape := ⟨2, ![1, 128]⟩
abbrev S12x1024 : Shape := ⟨2, ![12, 1024]⟩
abbrev S2048x1024 : Shape := ⟨2, ![2048, 1024]⟩
abbrev S1024x1024 : Shape := ⟨2, ![1024, 1024]⟩
abbrev S1024 : Shape := ⟨1, ![1024]⟩
abbrev S1x1024 : Shape := ⟨2, ![1, 1024]⟩
abbrev S16x1024 : Shape := ⟨2, ![16, 1024]⟩

abbrev nBuf : Table → Nat
  | .hbm => 6
  | .local .tc .vmem => 3
  | .local .scVector .vmem => 5
  | _ => 0

abbrev bufTy : (tb : Table) → Fin (nBuf tb) → BufTy
  | .hbm, ⟨0, _⟩ => ⟨S16384x1024, .f32⟩
  | .hbm, ⟨1, _⟩ => ⟨S512, .i32⟩
  | .hbm, ⟨2, _⟩ => ⟨S16, .i32⟩
  | .hbm, ⟨3, _⟩ => ⟨S4x1024, .f32⟩
  | .hbm, ⟨4, _⟩ => ⟨S12x1024, .f32⟩
  | .hbm, ⟨5, _⟩ => ⟨S16x1024, .f32⟩
  | .local .tc .vmem, ⟨0, _⟩ => ⟨S2048x1024, .f32⟩
  | .local .tc .vmem, ⟨1, _⟩ => ⟨S2048x1024, .f32⟩
  | .local .tc .vmem, ⟨2, _⟩ => ⟨S12x1024, .f32⟩
  | .local .scVector .vmem, ⟨0, _⟩ => ⟨S32x128, .f32⟩
  | .local .scVector .vmem, ⟨1, _⟩ => ⟨S32x128, .f32⟩
  | .local .scVector .vmem, ⟨2, _⟩ => ⟨S32x128, .f32⟩
  | .local .scVector .vmem, ⟨3, _⟩ => ⟨S32x128, .f32⟩
  | .local .scVector .vmem, ⟨4, _⟩ => ⟨S128, .f32⟩
  | _, _ => ⟨S16384x1024, .f32⟩

abbrev bufScoped : (cs : CoreSpace) → Fin (nBuf (.local .tc cs)) → Bool
  | .vmem, ⟨0, _⟩ => true
  | .vmem, ⟨1, _⟩ => true
  | .vmem, ⟨2, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 8 → Bool
  | ⟨0, _⟩ => false
  | ⟨1, _⟩ => false
  | ⟨2, _⟩ => false
  | ⟨3, _⟩ => false
  | ⟨4, _⟩ => false
  | ⟨5, _⟩ => true
  | ⟨6, _⟩ => true
  | ⟨7, _⟩ => true
  | _ => false

abbrev sig : RefSig :=
  ofTables nBuf rfl bufTy 4 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_arg0_scv : Ref sig .scVector := ⟨.hbm, 0, rfl⟩
abbrev main_v0_scv : Ref sig .scVector := ⟨.hbm, 3, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc1_sem0_0 : DmaSem sig := 5
abbrev cc1_sem0_1 : DmaSem sig := 6
abbrev cc1_sem1_0 : DmaSem sig := 7
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_cond1 (i : grid0.Coords) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 1 := Scalar.cmpi .slt v1 c32_i32
  let v3 : BitVec 32 := Scalar.extui v2
  let c0_i32 : BitVec 32 := 0#32
  let v4 : BitVec 1 := Scalar.cmpi .ne v3 c0_i32
  v4

def k0_off1 (i : grid0.Coords) (c0_i32_11 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let v6 : BitVec 1 := Scalar.cmpi .sgt v1 c0_i32_0
  let v7 : BitVec 32 := Scalar.extui v6
  let c0_i32_1 : BitVec 32 := 0#32
  let v8 : BitVec 1 := Scalar.cmpi .slt v1 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v1 c8_i32
  let c0_i32_4 : BitVec 32 := 0#32
  let v18 : BitVec 1 := Scalar.cmpi .ne v17 c0_i32_4
  let v19 : BitVec 1 := Scalar.andi v16 v18
  let v5 : BitVec 32 := Scalar.divsi v1 c8_i32
  let c1_i32 : BitVec 32 := 1#32
  let v20 : BitVec 32 := Scalar.subi v5 c1_i32
  let v21 : BitVec 32 := Scalar.select v19 v20 v5
  let c1024_i32 : BitVec 32 := 1024#32
  let v32 : BitVec 32 := Scalar.muli v21 c1024_i32
  let v34 : BitVec 32 := Scalar.addi v32 c0_i32_11
  let c8_i32_5 : BitVec 32 := 8#32
  let c0_i32_6 : BitVec 32 := 0#32
  let v22 : BitVec 1 := Scalar.cmpi .eq c8_i32_5 c0_i32_6
  let c1_i32_7 : BitVec 32 := 1#32
  let v23 : BitVec 32 := Scalar.select v22 c1_i32_7 c8_i32_5
  let v24 : BitVec 32 := Scalar.remsi v1 v23
  let c0_i32_9 : BitVec 32 := 0#32
  let v26 : BitVec 1 := Scalar.cmpi .slt v24 c0_i32_9
  let c0_i32_10 : BitVec 32 := 0#32
  let v27 : BitVec 1 := Scalar.cmpi .slt v23 c0_i32_10
  let v28 : BitVec 1 := Scalar.xori v26 v27
  let c0_i32_8 : BitVec 32 := 0#32
  let v25 : BitVec 1 := Scalar.cmpi .ne v24 c0_i32_8
  let v29 : BitVec 1 := Scalar.andi v28 v25
  let v30 : BitVec 32 := Scalar.addi v24 v23
  let v31 : BitVec 32 := Scalar.select v29 v30 v24
  let c128_i32 : BitVec 32 := 128#32
  let v33 : BitVec 32 := Scalar.muli v31 c128_i32
  ![v34.toNat, v33.toNat]
@[reducible] def k0_t1_loop : Scf.Loop 32 :=
  let c0_i32_13 : BitVec 32 := 0#32
  let c8_i32_14 : BitVec 32 := 8#32
  let v47 : BitVec 32 := Scalar.addi c0_i32_13 c8_i32_14
  let c1_i32_15 : BitVec 32 := 1#32
  ⟨c0_i32_13, v47, c1_i32_15⟩
def k0_off2 (i : grid0.Coords) (k0_t1 : Fin k0_t1_loop.trips) (c0_i32_25 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let v6 : BitVec 1 := Scalar.cmpi .sgt v1 c0_i32_0
  let v7 : BitVec 32 := Scalar.extui v6
  let c0_i32_1 : BitVec 32 := 0#32
  let v8 : BitVec 1 := Scalar.cmpi .slt v1 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v1 c8_i32
  let c0_i32_4 : BitVec 32 := 0#32
  let v18 : BitVec 1 := Scalar.cmpi .ne v17 c0_i32_4
  let v19 : BitVec 1 := Scalar.andi v16 v18
  let v5 : BitVec 32 := Scalar.divsi v1 c8_i32
  let c1_i32 : BitVec 32 := 1#32
  let v20 : BitVec 32 := Scalar.subi v5 c1_i32
  let v21 : BitVec 32 := Scalar.select v19 v20 v5
  let c1024_i32 : BitVec 32 := 1024#32
  let v32 : BitVec 32 := Scalar.muli v21 c1024_i32
  let c0_i32_13 : BitVec 32 := 0#32
  let c1_i32_15 : BitVec 32 := 1#32
  let arg13 : BitVec 32 := Scf.iv c0_i32_13 c1_i32_15 k0_t1
  let c4_i32 : BitVec 32 := 4#32
  let v89 : BitVec 32 := Scalar.muli arg13 c4_i32
  let v90 : BitVec 32 := Scalar.addi v89 c0_i32_25
  let c32_i32_26 : BitVec 32 := 32#32
  let v91 : BitVec 32 := Scalar.muli v90 c32_i32_26
  let v92 : BitVec 32 := Scalar.addi v32 v91
  let c8_i32_5 : BitVec 32 := 8#32
  let c0_i32_6 : BitVec 32 := 0#32
  let v22 : BitVec 1 := Scalar.cmpi .eq c8_i32_5 c0_i32_6
  let c1_i32_7 : BitVec 32 := 1#32
  let v23 : BitVec 32 := Scalar.select v22 c1_i32_7 c8_i32_5
  let v24 : BitVec 32 := Scalar.remsi v1 v23
  let c0_i32_9 : BitVec 32 := 0#32
  let v26 : BitVec 1 := Scalar.cmpi .slt v24 c0_i32_9
  let c0_i32_10 : BitVec 32 := 0#32
  let v27 : BitVec 1 := Scalar.cmpi .slt v23 c0_i32_10
  let v28 : BitVec 1 := Scalar.xori v26 v27
  let c0_i32_8 : BitVec 32 := 0#32
  let v25 : BitVec 1 := Scalar.cmpi .ne v24 c0_i32_8
  let v29 : BitVec 1 := Scalar.andi v28 v25
  let v30 : BitVec 32 := Scalar.addi v24 v23
  let v31 : BitVec 32 := Scalar.select v29 v30 v24
  let c128_i32 : BitVec 32 := 128#32
  let v33 : BitVec 32 := Scalar.muli v31 c128_i32
  ![v92.toNat, v33.toNat]
@[reducible] def k0_t2_loop : Scf.Loop 32 :=
  let c0_i32_27 : BitVec 32 := 0#32
  let c32_i32_28 : BitVec 32 := 32#32
  let v95 : BitVec 32 := Scalar.addi c0_i32_27 c32_i32_28
  let c1_i32_29 : BitVec 32 := 1#32
  ⟨c0_i32_27, v95, c1_i32_29⟩
def k0_off3 (k0_t2 : Fin k0_t2_loop.trips) : Fin 2 → Nat :=
  let c0_i32_27 : BitVec 32 := 0#32
  let c1_i32_29 : BitVec 32 := 1#32
  let arg22 : BitVec 32 := Scf.iv c0_i32_27 c1_i32_29 k0_t2
  let v133 : Index := Scalar.indexCast arg22
  let c0_58 : Index := 0#32
  ![v133.toNat, 0]
def k0_off4 (k0_t2 : Fin k0_t2_loop.trips) : Fin 2 → Nat :=
  let c0_i32_27 : BitVec 32 := 0#32
  let c1_i32_29 : BitVec 32 := 1#32
  let arg22 : BitVec 32 := Scf.iv c0_i32_27 c1_i32_29 k0_t2
  let v137 : Index := Scalar.indexCast arg22
  let c16_59 : Index := 16#32
  ![v137.toNat, 16]
def k0_off5 (k0_t2 : Fin k0_t2_loop.trips) : Fin 2 → Nat :=
  let c0_i32_27 : BitVec 32 := 0#32
  let c1_i32_29 : BitVec 32 := 1#32
  let arg22 : BitVec 32 := Scf.iv c0_i32_27 c1_i32_29 k0_t2
  let v141 : Index := Scalar.indexCast arg22
  let c32_60 : Index := 32#32
  ![v141.toNat, 32]
def k0_off6 (k0_t2 : Fin k0_t2_loop.trips) : Fin 2 → Nat :=
  let c0_i32_27 : BitVec 32 := 0#32
  let c1_i32_29 : BitVec 32 := 1#32
  let arg22 : BitVec 32 := Scf.iv c0_i32_27 c1_i32_29 k0_t2
  let v145 : Index := Scalar.indexCast arg22
  let c48_61 : Index := 48#32
  ![v145.toNat, 48]
def k0_off7 (k0_t2 : Fin k0_t2_loop.trips) : Fin 2 → Nat :=
  let c0_i32_27 : BitVec 32 := 0#32
  let c1_i32_29 : BitVec 32 := 1#32
  let arg22 : BitVec 32 := Scf.iv c0_i32_27 c1_i32_29 k0_t2
  let v149 : Index := Scalar.indexCast arg22
  let c64_62 : Index := 64#32
  ![v149.toNat, 64]
def k0_off8 (k0_t2 : Fin k0_t2_loop.trips) : Fin 2 → Nat :=
  let c0_i32_27 : BitVec 32 := 0#32
  let c1_i32_29 : BitVec 32 := 1#32
  let arg22 : BitVec 32 := Scf.iv c0_i32_27 c1_i32_29 k0_t2
  let v153 : Index := Scalar.indexCast arg22
  let c80_63 : Index := 80#32
  ![v153.toNat, 80]
def k0_off9 (k0_t2 : Fin k0_t2_loop.trips) : Fin 2 → Nat :=
  let c0_i32_27 : BitVec 32 := 0#32
  let c1_i32_29 : BitVec 32 := 1#32
  let arg22 : BitVec 32 := Scf.iv c0_i32_27 c1_i32_29 k0_t2
  let v157 : Index := Scalar.indexCast arg22
  let c96_64 : Index := 96#32
  ![v157.toNat, 96]
def k0_off10 (k0_t2 : Fin k0_t2_loop.trips) : Fin 2 → Nat :=
  let c0_i32_27 : BitVec 32 := 0#32
  let c1_i32_29 : BitVec 32 := 1#32
  let arg22 : BitVec 32 := Scf.iv c0_i32_27 c1_i32_29 k0_t2
  let v161 : Index := Scalar.indexCast arg22
  let c112_65 : Index := 112#32
  ![v161.toNat, 112]
def k0_cond2 (k0_t1 : Fin k0_t1_loop.trips) : BitVec 1 :=
  let c0_i32_13 : BitVec 32 := 0#32
  let c1_i32_15 : BitVec 32 := 1#32
  let arg13 : BitVec 32 := Scf.iv c0_i32_13 c1_i32_15 k0_t1
  let c7_i32 : BitVec 32 := 7#32
  let v97 : BitVec 1 := Scalar.cmpi .slt arg13 c7_i32
  let v98 : BitVec 32 := Scalar.extui v97
  let c0_i32_31 : BitVec 32 := 0#32
  let v99 : BitVec 1 := Scalar.cmpi .ne v98 c0_i32_31
  v99

def k0_off11 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let v6 : BitVec 1 := Scalar.cmpi .sgt v1 c0_i32_0
  let v7 : BitVec 32 := Scalar.extui v6
  let c0_i32_1 : BitVec 32 := 0#32
  let v8 : BitVec 1 := Scalar.cmpi .slt v1 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v1 c8_i32
  let c0_i32_4 : BitVec 32 := 0#32
  let v18 : BitVec 1 := Scalar.cmpi .ne v17 c0_i32_4
  let v19 : BitVec 1 := Scalar.andi v16 v18
  let v5 : BitVec 32 := Scalar.divsi v1 c8_i32
  let c1_i32 : BitVec 32 := 1#32
  let v20 : BitVec 32 := Scalar.subi v5 c1_i32
  let v21 : BitVec 32 := Scalar.select v19 v20 v5
  let c1024_i32 : BitVec 32 := 1024#32
  let v32 : BitVec 32 := Scalar.muli v21 c1024_i32
  let c0_i32_13 : BitVec 32 := 0#32
  let c1_i32_15 : BitVec 32 := 1#32
  let arg13 : BitVec 32 := Scf.iv c0_i32_13 c1_i32_15 k0_t1
  let c4_i32 : BitVec 32 := 4#32
  let v89 : BitVec 32 := Scalar.muli arg13 c4_i32
  let c0_i32_25 : BitVec 32 := 0#32
  let v90 : BitVec 32 := Scalar.addi v89 c0_i32_25
  let c4_i32_58 : BitVec 32 := 4#32
  let v133 : BitVec 32 := Scalar.addi v90 c4_i32_58
  let c32_i32_59 : BitVec 32 := 32#32
  let v134 : BitVec 32 := Scalar.muli v133 c32_i32_59
  let v135 : BitVec 32 := Scalar.addi v32 v134
  let c8_i32_5 : BitVec 32 := 8#32
  let c0_i32_6 : BitVec 32 := 0#32
  let v22 : BitVec 1 := Scalar.cmpi .eq c8_i32_5 c0_i32_6
  let c1_i32_7 : BitVec 32 := 1#32
  let v23 : BitVec 32 := Scalar.select v22 c1_i32_7 c8_i32_5
  let v24 : BitVec 32 := Scalar.remsi v1 v23
  let c0_i32_9 : BitVec 32 := 0#32
  let v26 : BitVec 1 := Scalar.cmpi .slt v24 c0_i32_9
  let c0_i32_10 : BitVec 32 := 0#32
  let v27 : BitVec 1 := Scalar.cmpi .slt v23 c0_i32_10
  let v28 : BitVec 1 := Scalar.xori v26 v27
  let c0_i32_8 : BitVec 32 := 0#32
  let v25 : BitVec 1 := Scalar.cmpi .ne v24 c0_i32_8
  let v29 : BitVec 1 := Scalar.andi v28 v25
  let v30 : BitVec 32 := Scalar.addi v24 v23
  let v31 : BitVec 32 := Scalar.select v29 v30 v24
  let c128_i32 : BitVec 32 := 128#32
  let v33 : BitVec 32 := Scalar.muli v31 c128_i32
  ![v135.toNat, v33.toNat]
@[reducible] def k0_t3_loop : Scf.Loop 32 :=
  let c0_i32_35 : BitVec 32 := 0#32
  let c32_i32_36 : BitVec 32 := 32#32
  let v106 : BitVec 32 := Scalar.addi c0_i32_35 c32_i32_36
  let c1_i32_37 : BitVec 32 := 1#32
  ⟨c0_i32_35, v106, c1_i32_37⟩
def k0_off12 (k0_t3 : Fin k0_t3_loop.trips) : Fin 2 → Nat :=
  let c0_i32_35 : BitVec 32 := 0#32
  let c1_i32_37 : BitVec 32 := 1#32
  let arg22 : BitVec 32 := Scf.iv c0_i32_35 c1_i32_37 k0_t3
  let v133 : Index := Scalar.indexCast arg22
  let c0_58 : Index := 0#32
  ![v133.toNat, 0]
def k0_off13 (k0_t3 : Fin k0_t3_loop.trips) : Fin 2 → Nat :=
  let c0_i32_35 : BitVec 32 := 0#32
  let c1_i32_37 : BitVec 32 := 1#32
  let arg22 : BitVec 32 := Scf.iv c0_i32_35 c1_i32_37 k0_t3
  let v137 : Index := Scalar.indexCast arg22
  let c16_59 : Index := 16#32
  ![v137.toNat, 16]
def k0_off14 (k0_t3 : Fin k0_t3_loop.trips) : Fin 2 → Nat :=
  let c0_i32_35 : BitVec 32 := 0#32
  let c1_i32_37 : BitVec 32 := 1#32
  let arg22 : BitVec 32 := Scf.iv c0_i32_35 c1_i32_37 k0_t3
  let v141 : Index := Scalar.indexCast arg22
  let c32_60 : Index := 32#32
  ![v141.toNat, 32]
def k0_off15 (k0_t3 : Fin k0_t3_loop.trips) : Fin 2 → Nat :=
  let c0_i32_35 : BitVec 32 := 0#32
  let c1_i32_37 : BitVec 32 := 1#32
  let arg22 : BitVec 32 := Scf.iv c0_i32_35 c1_i32_37 k0_t3
  let v145 : Index := Scalar.indexCast arg22
  let c48_61 : Index := 48#32
  ![v145.toNat, 48]
def k0_off16 (k0_t3 : Fin k0_t3_loop.trips) : Fin 2 → Nat :=
  let c0_i32_35 : BitVec 32 := 0#32
  let c1_i32_37 : BitVec 32 := 1#32
  let arg22 : BitVec 32 := Scf.iv c0_i32_35 c1_i32_37 k0_t3
  let v149 : Index := Scalar.indexCast arg22
  let c64_62 : Index := 64#32
  ![v149.toNat, 64]
def k0_off17 (k0_t3 : Fin k0_t3_loop.trips) : Fin 2 → Nat :=
  let c0_i32_35 : BitVec 32 := 0#32
  let c1_i32_37 : BitVec 32 := 1#32
  let arg22 : BitVec 32 := Scf.iv c0_i32_35 c1_i32_37 k0_t3
  let v153 : Index := Scalar.indexCast arg22
  let c80_63 : Index := 80#32
  ![v153.toNat, 80]
def k0_off18 (k0_t3 : Fin k0_t3_loop.trips) : Fin 2 → Nat :=
  let c0_i32_35 : BitVec 32 := 0#32
  let c1_i32_37 : BitVec 32 := 1#32
  let arg22 : BitVec 32 := Scf.iv c0_i32_35 c1_i32_37 k0_t3
  let v157 : Index := Scalar.indexCast arg22
  let c96_64 : Index := 96#32
  ![v157.toNat, 96]
def k0_off19 (k0_t3 : Fin k0_t3_loop.trips) : Fin 2 → Nat :=
  let c0_i32_35 : BitVec 32 := 0#32
  let c1_i32_37 : BitVec 32 := 1#32
  let arg22 : BitVec 32 := Scf.iv c0_i32_35 c1_i32_37 k0_t3
  let v161 : Index := Scalar.indexCast arg22
  let c112_65 : Index := 112#32
  ![v161.toNat, 112]
def k0_cond3 (k0_t1 : Fin k0_t1_loop.trips) : BitVec 1 :=
  let c0_i32_13 : BitVec 32 := 0#32
  let c1_i32_15 : BitVec 32 := 1#32
  let arg13 : BitVec 32 := Scf.iv c0_i32_13 c1_i32_15 k0_t1
  let c7_i32_39 : BitVec 32 := 7#32
  let v108 : BitVec 1 := Scalar.cmpi .slt arg13 c7_i32_39
  let v109 : BitVec 32 := Scalar.extui v108
  let c0_i32_40 : BitVec 32 := 0#32
  let v110 : BitVec 1 := Scalar.cmpi .ne v109 c0_i32_40
  v110

def k0_off20 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let v6 : BitVec 1 := Scalar.cmpi .sgt v1 c0_i32_0
  let v7 : BitVec 32 := Scalar.extui v6
  let c0_i32_1 : BitVec 32 := 0#32
  let v8 : BitVec 1 := Scalar.cmpi .slt v1 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v1 c8_i32
  let c0_i32_4 : BitVec 32 := 0#32
  let v18 : BitVec 1 := Scalar.cmpi .ne v17 c0_i32_4
  let v19 : BitVec 1 := Scalar.andi v16 v18
  let v5 : BitVec 32 := Scalar.divsi v1 c8_i32
  let c1_i32 : BitVec 32 := 1#32
  let v20 : BitVec 32 := Scalar.subi v5 c1_i32
  let v21 : BitVec 32 := Scalar.select v19 v20 v5
  let c1024_i32 : BitVec 32 := 1024#32
  let v32 : BitVec 32 := Scalar.muli v21 c1024_i32
  let c0_i32_13 : BitVec 32 := 0#32
  let c1_i32_15 : BitVec 32 := 1#32
  let arg13 : BitVec 32 := Scf.iv c0_i32_13 c1_i32_15 k0_t1
  let c4_i32_32 : BitVec 32 := 4#32
  let v100 : BitVec 32 := Scalar.muli arg13 c4_i32_32
  let c1_i32_33 : BitVec 32 := 1#32
  let v101 : BitVec 32 := Scalar.addi v100 c1_i32_33
  let c4_i32_58 : BitVec 32 := 4#32
  let v133 : BitVec 32 := Scalar.addi v101 c4_i32_58
  let c32_i32_59 : BitVec 32 := 32#32
  let v134 : BitVec 32 := Scalar.muli v133 c32_i32_59
  let v135 : BitVec 32 := Scalar.addi v32 v134
  let c8_i32_5 : BitVec 32 := 8#32
  let c0_i32_6 : BitVec 32 := 0#32
  let v22 : BitVec 1 := Scalar.cmpi .eq c8_i32_5 c0_i32_6
  let c1_i32_7 : BitVec 32 := 1#32
  let v23 : BitVec 32 := Scalar.select v22 c1_i32_7 c8_i32_5
  let v24 : BitVec 32 := Scalar.remsi v1 v23
  let c0_i32_9 : BitVec 32 := 0#32
  let v26 : BitVec 1 := Scalar.cmpi .slt v24 c0_i32_9
  let c0_i32_10 : BitVec 32 := 0#32
  let v27 : BitVec 1 := Scalar.cmpi .slt v23 c0_i32_10
  let v28 : BitVec 1 := Scalar.xori v26 v27
  let c0_i32_8 : BitVec 32 := 0#32
  let v25 : BitVec 1 := Scalar.cmpi .ne v24 c0_i32_8
  let v29 : BitVec 1 := Scalar.andi v28 v25
  let v30 : BitVec 32 := Scalar.addi v24 v23
  let v31 : BitVec 32 := Scalar.select v29 v30 v24
  let c128_i32 : BitVec 32 := 128#32
  let v33 : BitVec 32 := Scalar.muli v31 c128_i32
  ![v135.toNat, v33.toNat]
@[reducible] def k0_t4_loop : Scf.Loop 32 :=
  let c0_i32_44 : BitVec 32 := 0#32
  let c32_i32_45 : BitVec 32 := 32#32
  let v117 : BitVec 32 := Scalar.addi c0_i32_44 c32_i32_45
  let c1_i32_46 : BitVec 32 := 1#32
  ⟨c0_i32_44, v117, c1_i32_46⟩
def k0_off21 (k0_t4 : Fin k0_t4_loop.trips) : Fin 2 → Nat :=
  let c0_i32_44 : BitVec 32 := 0#32
  let c1_i32_46 : BitVec 32 := 1#32
  let arg22 : BitVec 32 := Scf.iv c0_i32_44 c1_i32_46 k0_t4
  let v133 : Index := Scalar.indexCast arg22
  let c0_58 : Index := 0#32
  ![v133.toNat, 0]
def k0_off22 (k0_t4 : Fin k0_t4_loop.trips) : Fin 2 → Nat :=
  let c0_i32_44 : BitVec 32 := 0#32
  let c1_i32_46 : BitVec 32 := 1#32
  let arg22 : BitVec 32 := Scf.iv c0_i32_44 c1_i32_46 k0_t4
  let v137 : Index := Scalar.indexCast arg22
  let c16_59 : Index := 16#32
  ![v137.toNat, 16]
def k0_off23 (k0_t4 : Fin k0_t4_loop.trips) : Fin 2 → Nat :=
  let c0_i32_44 : BitVec 32 := 0#32
  let c1_i32_46 : BitVec 32 := 1#32
  let arg22 : BitVec 32 := Scf.iv c0_i32_44 c1_i32_46 k0_t4
  let v141 : Index := Scalar.indexCast arg22
  let c32_60 : Index := 32#32
  ![v141.toNat, 32]
def k0_off24 (k0_t4 : Fin k0_t4_loop.trips) : Fin 2 → Nat :=
  let c0_i32_44 : BitVec 32 := 0#32
  let c1_i32_46 : BitVec 32 := 1#32
  let arg22 : BitVec 32 := Scf.iv c0_i32_44 c1_i32_46 k0_t4
  let v145 : Index := Scalar.indexCast arg22
  let c48_61 : Index := 48#32
  ![v145.toNat, 48]
def k0_off25 (k0_t4 : Fin k0_t4_loop.trips) : Fin 2 → Nat :=
  let c0_i32_44 : BitVec 32 := 0#32
  let c1_i32_46 : BitVec 32 := 1#32
  let arg22 : BitVec 32 := Scf.iv c0_i32_44 c1_i32_46 k0_t4
  let v149 : Index := Scalar.indexCast arg22
  let c64_62 : Index := 64#32
  ![v149.toNat, 64]
def k0_off26 (k0_t4 : Fin k0_t4_loop.trips) : Fin 2 → Nat :=
  let c0_i32_44 : BitVec 32 := 0#32
  let c1_i32_46 : BitVec 32 := 1#32
  let arg22 : BitVec 32 := Scf.iv c0_i32_44 c1_i32_46 k0_t4
  let v153 : Index := Scalar.indexCast arg22
  let c80_63 : Index := 80#32
  ![v153.toNat, 80]
def k0_off27 (k0_t4 : Fin k0_t4_loop.trips) : Fin 2 → Nat :=
  let c0_i32_44 : BitVec 32 := 0#32
  let c1_i32_46 : BitVec 32 := 1#32
  let arg22 : BitVec 32 := Scf.iv c0_i32_44 c1_i32_46 k0_t4
  let v157 : Index := Scalar.indexCast arg22
  let c96_64 : Index := 96#32
  ![v157.toNat, 96]
def k0_off28 (k0_t4 : Fin k0_t4_loop.trips) : Fin 2 → Nat :=
  let c0_i32_44 : BitVec 32 := 0#32
  let c1_i32_46 : BitVec 32 := 1#32
  let arg22 : BitVec 32 := Scf.iv c0_i32_44 c1_i32_46 k0_t4
  let v161 : Index := Scalar.indexCast arg22
  let c112_65 : Index := 112#32
  ![v161.toNat, 112]
def k0_cond4 (k0_t1 : Fin k0_t1_loop.trips) : BitVec 1 :=
  let c0_i32_13 : BitVec 32 := 0#32
  let c1_i32_15 : BitVec 32 := 1#32
  let arg13 : BitVec 32 := Scf.iv c0_i32_13 c1_i32_15 k0_t1
  let c7_i32_48 : BitVec 32 := 7#32
  let v119 : BitVec 1 := Scalar.cmpi .slt arg13 c7_i32_48
  let v120 : BitVec 32 := Scalar.extui v119
  let c0_i32_49 : BitVec 32 := 0#32
  let v121 : BitVec 1 := Scalar.cmpi .ne v120 c0_i32_49
  v121

def k0_off29 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let v6 : BitVec 1 := Scalar.cmpi .sgt v1 c0_i32_0
  let v7 : BitVec 32 := Scalar.extui v6
  let c0_i32_1 : BitVec 32 := 0#32
  let v8 : BitVec 1 := Scalar.cmpi .slt v1 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v1 c8_i32
  let c0_i32_4 : BitVec 32 := 0#32
  let v18 : BitVec 1 := Scalar.cmpi .ne v17 c0_i32_4
  let v19 : BitVec 1 := Scalar.andi v16 v18
  let v5 : BitVec 32 := Scalar.divsi v1 c8_i32
  let c1_i32 : BitVec 32 := 1#32
  let v20 : BitVec 32 := Scalar.subi v5 c1_i32
  let v21 : BitVec 32 := Scalar.select v19 v20 v5
  let c1024_i32 : BitVec 32 := 1024#32
  let v32 : BitVec 32 := Scalar.muli v21 c1024_i32
  let c0_i32_13 : BitVec 32 := 0#32
  let c1_i32_15 : BitVec 32 := 1#32
  let arg13 : BitVec 32 := Scf.iv c0_i32_13 c1_i32_15 k0_t1
  let c4_i32_41 : BitVec 32 := 4#32
  let v111 : BitVec 32 := Scalar.muli arg13 c4_i32_41
  let c2_i32_42 : BitVec 32 := 2#32
  let v112 : BitVec 32 := Scalar.addi v111 c2_i32_42
  let c4_i32_58 : BitVec 32 := 4#32
  let v133 : BitVec 32 := Scalar.addi v112 c4_i32_58
  let c32_i32_59 : BitVec 32 := 32#32
  let v134 : BitVec 32 := Scalar.muli v133 c32_i32_59
  let v135 : BitVec 32 := Scalar.addi v32 v134
  let c8_i32_5 : BitVec 32 := 8#32
  let c0_i32_6 : BitVec 32 := 0#32
  let v22 : BitVec 1 := Scalar.cmpi .eq c8_i32_5 c0_i32_6
  let c1_i32_7 : BitVec 32 := 1#32
  let v23 : BitVec 32 := Scalar.select v22 c1_i32_7 c8_i32_5
  let v24 : BitVec 32 := Scalar.remsi v1 v23
  let c0_i32_9 : BitVec 32 := 0#32
  let v26 : BitVec 1 := Scalar.cmpi .slt v24 c0_i32_9
  let c0_i32_10 : BitVec 32 := 0#32
  let v27 : BitVec 1 := Scalar.cmpi .slt v23 c0_i32_10
  let v28 : BitVec 1 := Scalar.xori v26 v27
  let c0_i32_8 : BitVec 32 := 0#32
  let v25 : BitVec 1 := Scalar.cmpi .ne v24 c0_i32_8
  let v29 : BitVec 1 := Scalar.andi v28 v25
  let v30 : BitVec 32 := Scalar.addi v24 v23
  let v31 : BitVec 32 := Scalar.select v29 v30 v24
  let c128_i32 : BitVec 32 := 128#32
  let v33 : BitVec 32 := Scalar.muli v31 c128_i32
  ![v135.toNat, v33.toNat]
@[reducible] def k0_t5_loop : Scf.Loop 32 :=
  let c0_i32_52 : BitVec 32 := 0#32
  let c32_i32_53 : BitVec 32 := 32#32
  let v128 : BitVec 32 := Scalar.addi c0_i32_52 c32_i32_53
  let c1_i32_54 : BitVec 32 := 1#32
  ⟨c0_i32_52, v128, c1_i32_54⟩
def k0_off30 (k0_t5 : Fin k0_t5_loop.trips) : Fin 2 → Nat :=
  let c0_i32_52 : BitVec 32 := 0#32
  let c1_i32_54 : BitVec 32 := 1#32
  let arg22 : BitVec 32 := Scf.iv c0_i32_52 c1_i32_54 k0_t5
  let v133 : Index := Scalar.indexCast arg22
  let c0_58 : Index := 0#32
  ![v133.toNat, 0]
def k0_off31 (k0_t5 : Fin k0_t5_loop.trips) : Fin 2 → Nat :=
  let c0_i32_52 : BitVec 32 := 0#32
  let c1_i32_54 : BitVec 32 := 1#32
  let arg22 : BitVec 32 := Scf.iv c0_i32_52 c1_i32_54 k0_t5
  let v137 : Index := Scalar.indexCast arg22
  let c16_59 : Index := 16#32
  ![v137.toNat, 16]
def k0_off32 (k0_t5 : Fin k0_t5_loop.trips) : Fin 2 → Nat :=
  let c0_i32_52 : BitVec 32 := 0#32
  let c1_i32_54 : BitVec 32 := 1#32
  let arg22 : BitVec 32 := Scf.iv c0_i32_52 c1_i32_54 k0_t5
  let v141 : Index := Scalar.indexCast arg22
  let c32_60 : Index := 32#32
  ![v141.toNat, 32]
def k0_off33 (k0_t5 : Fin k0_t5_loop.trips) : Fin 2 → Nat :=
  let c0_i32_52 : BitVec 32 := 0#32
  let c1_i32_54 : BitVec 32 := 1#32
  let arg22 : BitVec 32 := Scf.iv c0_i32_52 c1_i32_54 k0_t5
  let v145 : Index := Scalar.indexCast arg22
  let c48_61 : Index := 48#32
  ![v145.toNat, 48]
def k0_off34 (k0_t5 : Fin k0_t5_loop.trips) : Fin 2 → Nat :=
  let c0_i32_52 : BitVec 32 := 0#32
  let c1_i32_54 : BitVec 32 := 1#32
  let arg22 : BitVec 32 := Scf.iv c0_i32_52 c1_i32_54 k0_t5
  let v149 : Index := Scalar.indexCast arg22
  let c64_62 : Index := 64#32
  ![v149.toNat, 64]
def k0_off35 (k0_t5 : Fin k0_t5_loop.trips) : Fin 2 → Nat :=
  let c0_i32_52 : BitVec 32 := 0#32
  let c1_i32_54 : BitVec 32 := 1#32
  let arg22 : BitVec 32 := Scf.iv c0_i32_52 c1_i32_54 k0_t5
  let v153 : Index := Scalar.indexCast arg22
  let c80_63 : Index := 80#32
  ![v153.toNat, 80]
def k0_off36 (k0_t5 : Fin k0_t5_loop.trips) : Fin 2 → Nat :=
  let c0_i32_52 : BitVec 32 := 0#32
  let c1_i32_54 : BitVec 32 := 1#32
  let arg22 : BitVec 32 := Scf.iv c0_i32_52 c1_i32_54 k0_t5
  let v157 : Index := Scalar.indexCast arg22
  let c96_64 : Index := 96#32
  ![v157.toNat, 96]
def k0_off37 (k0_t5 : Fin k0_t5_loop.trips) : Fin 2 → Nat :=
  let c0_i32_52 : BitVec 32 := 0#32
  let c1_i32_54 : BitVec 32 := 1#32
  let arg22 : BitVec 32 := Scf.iv c0_i32_52 c1_i32_54 k0_t5
  let v161 : Index := Scalar.indexCast arg22
  let c112_65 : Index := 112#32
  ![v161.toNat, 112]
def k0_cond5 (k0_t1 : Fin k0_t1_loop.trips) : BitVec 1 :=
  let c0_i32_13 : BitVec 32 := 0#32
  let c1_i32_15 : BitVec 32 := 1#32
  let arg13 : BitVec 32 := Scf.iv c0_i32_13 c1_i32_15 k0_t1
  let c7_i32_56 : BitVec 32 := 7#32
  let v130 : BitVec 1 := Scalar.cmpi .slt arg13 c7_i32_56
  let v131 : BitVec 32 := Scalar.extui v130
  let c0_i32_57 : BitVec 32 := 0#32
  let v132 : BitVec 1 := Scalar.cmpi .ne v131 c0_i32_57
  v132

def k0_off38 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let v6 : BitVec 1 := Scalar.cmpi .sgt v1 c0_i32_0
  let v7 : BitVec 32 := Scalar.extui v6
  let c0_i32_1 : BitVec 32 := 0#32
  let v8 : BitVec 1 := Scalar.cmpi .slt v1 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v1 c8_i32
  let c0_i32_4 : BitVec 32 := 0#32
  let v18 : BitVec 1 := Scalar.cmpi .ne v17 c0_i32_4
  let v19 : BitVec 1 := Scalar.andi v16 v18
  let v5 : BitVec 32 := Scalar.divsi v1 c8_i32
  let c1_i32 : BitVec 32 := 1#32
  let v20 : BitVec 32 := Scalar.subi v5 c1_i32
  let v21 : BitVec 32 := Scalar.select v19 v20 v5
  let c1024_i32 : BitVec 32 := 1024#32
  let v32 : BitVec 32 := Scalar.muli v21 c1024_i32
  let c0_i32_13 : BitVec 32 := 0#32
  let c1_i32_15 : BitVec 32 := 1#32
  let arg13 : BitVec 32 := Scf.iv c0_i32_13 c1_i32_15 k0_t1
  let c4_i32_50 : BitVec 32 := 4#32
  let v122 : BitVec 32 := Scalar.muli arg13 c4_i32_50
  let c3_i32 : BitVec 32 := 3#32
  let v123 : BitVec 32 := Scalar.addi v122 c3_i32
  let c4_i32_58 : BitVec 32 := 4#32
  let v133 : BitVec 32 := Scalar.addi v123 c4_i32_58
  let c32_i32_59 : BitVec 32 := 32#32
  let v134 : BitVec 32 := Scalar.muli v133 c32_i32_59
  let v135 : BitVec 32 := Scalar.addi v32 v134
  let c8_i32_5 : BitVec 32 := 8#32
  let c0_i32_6 : BitVec 32 := 0#32
  let v22 : BitVec 1 := Scalar.cmpi .eq c8_i32_5 c0_i32_6
  let c1_i32_7 : BitVec 32 := 1#32
  let v23 : BitVec 32 := Scalar.select v22 c1_i32_7 c8_i32_5
  let v24 : BitVec 32 := Scalar.remsi v1 v23
  let c0_i32_9 : BitVec 32 := 0#32
  let v26 : BitVec 1 := Scalar.cmpi .slt v24 c0_i32_9
  let c0_i32_10 : BitVec 32 := 0#32
  let v27 : BitVec 1 := Scalar.cmpi .slt v23 c0_i32_10
  let v28 : BitVec 1 := Scalar.xori v26 v27
  let c0_i32_8 : BitVec 32 := 0#32
  let v25 : BitVec 1 := Scalar.cmpi .ne v24 c0_i32_8
  let v29 : BitVec 1 := Scalar.andi v28 v25
  let v30 : BitVec 32 := Scalar.addi v24 v23
  let v31 : BitVec 32 := Scalar.select v29 v30 v24
  let c128_i32 : BitVec 32 := 128#32
  let v33 : BitVec 32 := Scalar.muli v31 c128_i32
  ![v135.toNat, v33.toNat]
def k0_off39 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let v6 : BitVec 1 := Scalar.cmpi .sgt v1 c0_i32_0
  let v7 : BitVec 32 := Scalar.extui v6
  let c0_i32_1 : BitVec 32 := 0#32
  let v8 : BitVec 1 := Scalar.cmpi .slt v1 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v1 c8_i32
  let c0_i32_4 : BitVec 32 := 0#32
  let v18 : BitVec 1 := Scalar.cmpi .ne v17 c0_i32_4
  let v19 : BitVec 1 := Scalar.andi v16 v18
  let v5 : BitVec 32 := Scalar.divsi v1 c8_i32
  let c1_i32 : BitVec 32 := 1#32
  let v20 : BitVec 32 := Scalar.subi v5 c1_i32
  let v21 : BitVec 32 := Scalar.select v19 v20 v5
  let c8_i32_5 : BitVec 32 := 8#32
  let c0_i32_6 : BitVec 32 := 0#32
  let v22 : BitVec 1 := Scalar.cmpi .eq c8_i32_5 c0_i32_6
  let c1_i32_7 : BitVec 32 := 1#32
  let v23 : BitVec 32 := Scalar.select v22 c1_i32_7 c8_i32_5
  let v24 : BitVec 32 := Scalar.remsi v1 v23
  let c0_i32_9 : BitVec 32 := 0#32
  let v26 : BitVec 1 := Scalar.cmpi .slt v24 c0_i32_9
  let c0_i32_10 : BitVec 32 := 0#32
  let v27 : BitVec 1 := Scalar.cmpi .slt v23 c0_i32_10
  let v28 : BitVec 1 := Scalar.xori v26 v27
  let c0_i32_8 : BitVec 32 := 0#32
  let v25 : BitVec 1 := Scalar.cmpi .ne v24 c0_i32_8
  let v29 : BitVec 1 := Scalar.andi v28 v25
  let v30 : BitVec 32 := Scalar.addi v24 v23
  let v31 : BitVec 32 := Scalar.select v29 v30 v24
  let c128_i32 : BitVec 32 := 128#32
  let v33 : BitVec 32 := Scalar.muli v31 c128_i32
  ![v21.toNat, v33.toNat]
abbrev grid1 : Pipeline.Grid := ⟨1, ![6], ![false]⟩

def k1_off1 (i : grid1.Coords) : Fin 2 → Nat :=
  let c2_i32 : BitVec 32 := 2#32
  let arg0 : BitVec 32 := BitVec.ofNat 32 (i 0).val
  let v4 : BitVec 32 := Scalar.muli c2_i32 arg0
  let v5 : Index := Scalar.indexCast v4
  let c0_2 : Index := 0#32
  ![v5.toNat, 0]
def k1_off2 (i : grid1.Coords) : Fin 2 → Nat :=
  let c2_i32_6 : BitVec 32 := 2#32
  let arg0 : BitVec 32 := BitVec.ofNat 32 (i 0).val
  let v13 : BitVec 32 := Scalar.muli c2_i32_6 arg0
  let c1_i32 : BitVec 32 := 1#32
  let v14 : BitVec 32 := Scalar.addi v13 c1_i32
  let v15 : Index := Scalar.indexCast v14
  let c0_7 : Index := 0#32
  ![v15.toNat, 0]
def cc1_transform_0 (i : grid1.Coords) : Fin 2 → Nat :=
  let arg0 : BitVec 32 := BitVec.ofNat 32 (i 0).val
  let c2_i32 : BitVec 32 := 2#32
  let v0 : BitVec 32 := Scalar.addi arg0 c2_i32
  let c0_i32 : BitVec 32 := 0#32
  let c0_i32_0 : BitVec 32 := 0#32
  ![v0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S2048x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S12x1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S16384x1024 : Shape := ⟨2, ![16384, 1024]⟩
abbrev S512 : Shape := ⟨1, ![512]⟩
abbrev S16 : Shape := ⟨1, ![16]⟩
abbrev S1 : Shape := ⟨1, ![1]⟩
abbrev S511 : Shape := ⟨1, ![511]⟩
abbrev S_ : Shape := ⟨0, ![]⟩
abbrev S16384 : Shape := ⟨1, ![16384]⟩
abbrev S512x1 : Shape := ⟨2, ![512, 1]⟩
abbrev S16384x1 : Shape := ⟨2, ![16384, 1]⟩
abbrev S1x1 : Shape := ⟨2, ![1, 1]⟩
abbrev S512x1024 : Shape := ⟨2, ![512, 1024]⟩
abbrev S15 : Shape := ⟨1, ![15]⟩
abbrev S16x1 : Shape := ⟨2, ![16, 1]⟩
abbrev S16x1024 : Shape := ⟨2, ![16, 1024]⟩

abbrev nBuf : Space → Nat
  | .hbm => 123
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S512, .i32⟩
  | .hbm, ⟨2, _⟩ => ⟨S16, .i32⟩
  | .hbm, ⟨3, _⟩ => ⟨S512, .i32⟩
  | .hbm, ⟨4, _⟩ => ⟨S1, .i32⟩
  | .hbm, ⟨5, _⟩ => ⟨S511, .i32⟩
  | .hbm, ⟨6, _⟩ => ⟨S512, .i32⟩
  | .hbm, ⟨7, _⟩ => ⟨S_, .i32⟩
  | .hbm, ⟨8, _⟩ => ⟨S1, .i32⟩
  | .hbm, ⟨9, _⟩ => ⟨S_, .i32⟩
  | .hbm, ⟨10, _⟩ => ⟨S512, .i32⟩
  | .hbm, ⟨11, _⟩ => ⟨S_, .i32⟩
  | .hbm, ⟨12, _⟩ => ⟨S_, .i32⟩
  | .hbm, ⟨13, _⟩ => ⟨S512, .i32⟩
  | .hbm, ⟨14, _⟩ => ⟨S_, .i32⟩
  | .hbm, ⟨15, _⟩ => ⟨S16384, .i32⟩
  | .hbm, ⟨16, _⟩ => ⟨S_, .i32⟩
  | .hbm, ⟨17, _⟩ => ⟨S512, .i32⟩
  | .hbm, ⟨18, _⟩ => ⟨S512, .i1⟩
  | .hbm, ⟨19, _⟩ => ⟨S_, .i32⟩
  | .hbm, ⟨20, _⟩ => ⟨S512, .i32⟩
  | .hbm, ⟨21, _⟩ => ⟨S512, .i32⟩
  | .hbm, ⟨22, _⟩ => ⟨S512, .i32⟩
  | .hbm, ⟨23, _⟩ => ⟨S512x1, .i32⟩
  | .hbm, ⟨24, _⟩ => ⟨S_, .i32⟩
  | .hbm, ⟨25, _⟩ => ⟨S512, .i32⟩
  | .hbm, ⟨26, _⟩ => ⟨S16384, .i32⟩
  | .hbm, ⟨27, _⟩ => ⟨S_, .i32⟩
  | .hbm, ⟨28, _⟩ => ⟨S_, .i32⟩
  | .hbm, ⟨29, _⟩ => ⟨S16384, .i32⟩
  | .hbm, ⟨30, _⟩ => ⟨S_, .i32⟩
  | .hbm, ⟨31, _⟩ => ⟨S16384, .i32⟩
  | .hbm, ⟨32, _⟩ => ⟨S16384, .i32⟩
  | .hbm, ⟨33, _⟩ => ⟨S_, .i32⟩
  | .hbm, ⟨34, _⟩ => ⟨S16384, .i32⟩
  | .hbm, ⟨35, _⟩ => ⟨S16384, .i1⟩
  | .hbm, ⟨36, _⟩ => ⟨S_, .i32⟩
  | .hbm, ⟨37, _⟩ => ⟨S16384, .i32⟩
  | .hbm, ⟨38, _⟩ => ⟨S16384, .i32⟩
  | .hbm, ⟨39, _⟩ => ⟨S16384, .i32⟩
  | .hbm, ⟨40, _⟩ => ⟨S16384x1, .i32⟩
  | .hbm, ⟨41, _⟩ => ⟨S1, .i32⟩
  | .hbm, ⟨42, _⟩ => ⟨S_, .i32⟩
  | .hbm, ⟨43, _⟩ => ⟨S16384x1, .i32⟩
  | .hbm, ⟨44, _⟩ => ⟨S16384x1, .i1⟩
  | .hbm, ⟨45, _⟩ => ⟨S1x1, .i32⟩
  | .hbm, ⟨46, _⟩ => ⟨S16384x1, .i32⟩
  | .hbm, ⟨47, _⟩ => ⟨S16384x1, .i1⟩
  | .hbm, ⟨48, _⟩ => ⟨S16384x1, .i1⟩
  | .hbm, ⟨49, _⟩ => ⟨S_, .i1⟩
  | .hbm, ⟨50, _⟩ => ⟨S16384, .i1⟩
  | .hbm, ⟨51, _⟩ => ⟨S16384, .i32⟩
  | .hbm, ⟨52, _⟩ => ⟨S_, .i32⟩
  | .hbm, ⟨53, _⟩ => ⟨S16384, .i32⟩
  | .hbm, ⟨54, _⟩ => ⟨S16384, .i32⟩
  | .hbm, ⟨55, _⟩ => ⟨S_, .f32⟩
  | .hbm, ⟨56, _⟩ => ⟨S512x1024, .f32⟩
  | .hbm, ⟨57, _⟩ => ⟨S16384x1, .i32⟩
  | .hbm, ⟨58, _⟩ => ⟨S512x1024, .f32⟩
  | .hbm, ⟨59, _⟩ => ⟨S512, .f32⟩
  | .hbm, ⟨60, _⟩ => ⟨S512x1, .f32⟩
  | .hbm, ⟨61, _⟩ => ⟨S512x1024, .f32⟩
  | .hbm, ⟨62, _⟩ => ⟨S512x1024, .f32⟩
  | .hbm, ⟨63, _⟩ => ⟨S16, .i32⟩
  | .hbm, ⟨64, _⟩ => ⟨S1, .i32⟩
  | .hbm, ⟨65, _⟩ => ⟨S15, .i32⟩
  | .hbm, ⟨66, _⟩ => ⟨S16, .i32⟩
  | .hbm, ⟨67, _⟩ => ⟨S_, .i32⟩
  | .hbm, ⟨68, _⟩ => ⟨S1, .i32⟩
  | .hbm, ⟨69, _⟩ => ⟨S_, .i32⟩
  | .hbm, ⟨70, _⟩ => ⟨S16, .i32⟩
  | .hbm, ⟨71, _⟩ => ⟨S_, .i32⟩
  | .hbm, ⟨72, _⟩ => ⟨S_, .i32⟩
  | .hbm, ⟨73, _⟩ => ⟨S16, .i32⟩
  | .hbm, ⟨74, _⟩ => ⟨S_, .i32⟩
  | .hbm, ⟨75, _⟩ => ⟨S512, .i32⟩
  | .hbm, ⟨76, _⟩ => ⟨S_, .i32⟩
  | .hbm, ⟨77, _⟩ => ⟨S16, .i32⟩
  | .hbm, ⟨78, _⟩ => ⟨S16, .i1⟩
  | .hbm, ⟨79, _⟩ => ⟨S_, .i32⟩
  | .hbm, ⟨80, _⟩ => ⟨S16, .i32⟩
  | .hbm, ⟨81, _⟩ => ⟨S16, .i32⟩
  | .hbm, ⟨82, _⟩ => ⟨S16, .i32⟩
  | .hbm, ⟨83, _⟩ => ⟨S16x1, .i32⟩
  | .hbm, ⟨84, _⟩ => ⟨S_, .i32⟩
  | .hbm, ⟨85, _⟩ => ⟨S16, .i32⟩
  | .hbm, ⟨86, _⟩ => ⟨S512, .i32⟩
  | .hbm, ⟨87, _⟩ => ⟨S_, .i32⟩
  | .hbm, ⟨88, _⟩ => ⟨S_, .i32⟩
  | .hbm, ⟨89, _⟩ => ⟨S512, .i32⟩
  | .hbm, ⟨90, _⟩ => ⟨S_, .i32⟩
  | .hbm, ⟨91, _⟩ => ⟨S512, .i32⟩
  | .hbm, ⟨92, _⟩ => ⟨S512, .i32⟩
  | .hbm, ⟨93, _⟩ => ⟨S_, .i32⟩
  | .hbm, ⟨94, _⟩ => ⟨S512, .i32⟩
  | .hbm, ⟨95, _⟩ => ⟨S512, .i1⟩
  | .hbm, ⟨96, _⟩ => ⟨S_, .i32⟩
  | .hbm, ⟨97, _⟩ => ⟨S512, .i32⟩
  | .hbm, ⟨98, _⟩ => ⟨S512, .i32⟩
  | .hbm, ⟨99, _⟩ => ⟨S512, .i32⟩
  | .hbm, ⟨100, _⟩ => ⟨S512x1, .i32⟩
  | .hbm, ⟨101, _⟩ => ⟨S1, .i32⟩
  | .hbm, ⟨102, _⟩ => ⟨S_, .i32⟩
  | .hbm, ⟨103, _⟩ => ⟨S512x1, .i32⟩
  | .hbm, ⟨104, _⟩ => ⟨S512x1, .i1⟩
  | .hbm, ⟨105, _⟩ => ⟨S1x1, .i32⟩
  | .hbm, ⟨106, _⟩ => ⟨S512x1, .i32⟩
  | .hbm, ⟨107, _⟩ => ⟨S512x1, .i1⟩
  | .hbm, ⟨108, _⟩ => ⟨S512x1, .i1⟩
  | .hbm, ⟨109, _⟩ => ⟨S_, .i1⟩
  | .hbm, ⟨110, _⟩ => ⟨S512, .i1⟩
  | .hbm, ⟨111, _⟩ => ⟨S512, .i32⟩
  | .hbm, ⟨112, _⟩ => ⟨S_, .i32⟩
  | .hbm, ⟨113, _⟩ => ⟨S512, .i32⟩
  | .hbm, ⟨114, _⟩ => ⟨S512, .i32⟩
  | .hbm, ⟨115, _⟩ => ⟨S_, .f32⟩
  | .hbm, ⟨116, _⟩ => ⟨S16x1024, .f32⟩
  | .hbm, ⟨117, _⟩ => ⟨S512x1, .i32⟩
  | .hbm, ⟨118, _⟩ => ⟨S16x1024, .f32⟩
  | .hbm, ⟨119, _⟩ => ⟨S16, .f32⟩
  | .hbm, ⟨120, _⟩ => ⟨S16x1, .f32⟩
  | .hbm, ⟨121, _⟩ => ⟨S16x1024, .f32⟩
  | .hbm, ⟨122, _⟩ => ⟨S16x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_call0_v0 : Ref sig .tc := ⟨.hbm, 4, rfl⟩
abbrev main_call0_v1 : Ref sig .tc := ⟨.hbm, 5, rfl⟩
abbrev main_v1 : Ref sig .tc := ⟨.hbm, 6, rfl⟩
abbrev main_c : Ref sig .tc := ⟨.hbm, 7, rfl⟩
abbrev main_v2 : Ref sig .tc := ⟨.hbm, 8, rfl⟩
abbrev main_c_0 : Ref sig .tc := ⟨.hbm, 9, rfl⟩
abbrev main_v3 : Ref sig .tc := ⟨.hbm, 10, rfl⟩
abbrev main_call1_call0_c : Ref sig .tc := ⟨.hbm, 11, rfl⟩
abbrev main_call1_call0_v0 : Ref sig .tc := ⟨.hbm, 12, rfl⟩
abbrev main_v4 : Ref sig .tc := ⟨.hbm, 13, rfl⟩
abbrev main_c_1 : Ref sig .tc := ⟨.hbm, 14, rfl⟩
abbrev main_v5 : Ref sig .tc := ⟨.hbm, 15, rfl⟩
abbrev main_c_2 : Ref sig .tc := ⟨.hbm, 16, rfl⟩
abbrev main_v6 : Ref sig .tc := ⟨.hbm, 17, rfl⟩
abbrev main_v7 : Ref sig .tc := ⟨.hbm, 18, rfl⟩
abbrev main_c_3 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_c_4 : Ref sig .tc := ⟨.hbm, 24, rfl⟩
abbrev main_v12 : Ref sig .tc := ⟨.hbm, 25, rfl⟩
abbrev main_v13 : Ref sig .tc := ⟨.hbm, 26, rfl⟩
abbrev main_call2_call0_c : Ref sig .tc := ⟨.hbm, 27, rfl⟩
abbrev main_call2_call0_v0 : Ref sig .tc := ⟨.hbm, 28, rfl⟩
abbrev main_v14 : Ref sig .tc := ⟨.hbm, 29, rfl⟩
abbrev main_c_5 : Ref sig .tc := ⟨.hbm, 30, rfl⟩
abbrev main_v15 : Ref sig .tc := ⟨.hbm, 31, rfl⟩
abbrev main_v16 : Ref sig .tc := ⟨.hbm, 32, rfl⟩
abbrev main_call3_c : Ref sig .tc := ⟨.hbm, 33, rfl⟩
abbrev main_call3_v0 : Ref sig .tc := ⟨.hbm, 34, rfl⟩
abbrev main_call3_v1 : Ref sig .tc := ⟨.hbm, 35, rfl⟩
abbrev main_call3_c_0 : Ref sig .tc := ⟨.hbm, 36, rfl⟩
abbrev main_call3_v2 : Ref sig .tc := ⟨.hbm, 37, rfl⟩
abbrev main_call3_v3 : Ref sig .tc := ⟨.hbm, 38, rfl⟩
abbrev main_call3_v4 : Ref sig .tc := ⟨.hbm, 39, rfl⟩
abbrev main_call3_v5 : Ref sig .tc := ⟨.hbm, 40, rfl⟩
abbrev main_call3_c_1 : Ref sig .tc := ⟨.hbm, 41, rfl⟩
abbrev main_call3_c_2 : Ref sig .tc := ⟨.hbm, 42, rfl⟩
abbrev main_call3_v6 : Ref sig .tc := ⟨.hbm, 43, rfl⟩
abbrev main_call3_v7 : Ref sig .tc := ⟨.hbm, 44, rfl⟩
abbrev main_call3_v8 : Ref sig .tc := ⟨.hbm, 45, rfl⟩
abbrev main_call3_v9 : Ref sig .tc := ⟨.hbm, 46, rfl⟩
abbrev main_call3_v10 : Ref sig .tc := ⟨.hbm, 47, rfl⟩
abbrev main_call3_v11 : Ref sig .tc := ⟨.hbm, 48, rfl⟩
abbrev main_call3_c_3 : Ref sig .tc := ⟨.hbm, 49, rfl⟩
abbrev main_call3_v12 : Ref sig .tc := ⟨.hbm, 50, rfl⟩
abbrev main_call3_v13 : Ref sig .tc := ⟨.hbm, 51, rfl⟩
abbrev main_call3_c_4 : Ref sig .tc := ⟨.hbm, 52, rfl⟩
abbrev main_call3_v14 : Ref sig .tc := ⟨.hbm, 53, rfl⟩
abbrev main_v17 : Ref sig .tc := ⟨.hbm, 54, rfl⟩
abbrev main_cst : Ref sig .tc := ⟨.hbm, 55, rfl⟩
abbrev main_v18 : Ref sig .tc := ⟨.hbm, 56, rfl⟩
abbrev main_v19 : Ref sig .tc := ⟨.hbm, 57, rfl⟩
abbrev main_v20 : Ref sig .tc := ⟨.hbm, 58, rfl⟩
abbrev main_v21 : Ref sig .tc := ⟨.hbm, 59, rfl⟩
abbrev main_v22 : Ref sig .tc := ⟨.hbm, 60, rfl⟩
abbrev main_v23 : Ref sig .tc := ⟨.hbm, 61, rfl⟩
abbrev main_v24 : Ref sig .tc := ⟨.hbm, 62, rfl⟩
abbrev main_v25 : Ref sig .tc := ⟨.hbm, 63, rfl⟩
abbrev main_call4_v0 : Ref sig .tc := ⟨.hbm, 64, rfl⟩
abbrev main_call4_v1 : Ref sig .tc := ⟨.hbm, 65, rfl⟩
abbrev main_v26 : Ref sig .tc := ⟨.hbm, 66, rfl⟩
abbrev main_c_6 : Ref sig .tc := ⟨.hbm, 67, rfl⟩
abbrev main_v27 : Ref sig .tc := ⟨.hbm, 68, rfl⟩
abbrev main_c_7 : Ref sig .tc := ⟨.hbm, 69, rfl⟩
abbrev main_v28 : Ref sig .tc := ⟨.hbm, 70, rfl⟩
abbrev main_call5_call0_c : Ref sig .tc := ⟨.hbm, 71, rfl⟩
abbrev main_call5_call0_v0 : Ref sig .tc := ⟨.hbm, 72, rfl⟩
abbrev main_v29 : Ref sig .tc := ⟨.hbm, 73, rfl⟩
abbrev main_c_8 : Ref sig .tc := ⟨.hbm, 74, rfl⟩
abbrev main_v30 : Ref sig .tc := ⟨.hbm, 75, rfl⟩
abbrev main_c_9 : Ref sig .tc := ⟨.hbm, 76, rfl⟩
abbrev main_v31 : Ref sig .tc := ⟨.hbm, 77, rfl⟩
abbrev main_v32 : Ref sig .tc := ⟨.hbm, 78, rfl⟩
abbrev main_c_10 : Ref sig .tc := ⟨.hbm, 79, rfl⟩
abbrev main_v33 : Ref sig .tc := ⟨.hbm, 80, rfl⟩
abbrev main_v34 : Ref sig .tc := ⟨.hbm, 81, rfl⟩
abbrev main_v35 : Ref sig .tc := ⟨.hbm, 82, rfl⟩
abbrev main_v36 : Ref sig .tc := ⟨.hbm, 83, rfl⟩
abbrev main_c_11 : Ref sig .tc := ⟨.hbm, 84, rfl⟩
abbrev main_v37 : Ref sig .tc := ⟨.hbm, 85, rfl⟩
abbrev main_v38 : Ref sig .tc := ⟨.hbm, 86, rfl⟩
abbrev main_call6_call0_c : Ref sig .tc := ⟨.hbm, 87, rfl⟩
abbrev main_call6_call0_v0 : Ref sig .tc := ⟨.hbm, 88, rfl⟩
abbrev main_v39 : Ref sig .tc := ⟨.hbm, 89, rfl⟩
abbrev main_c_12 : Ref sig .tc := ⟨.hbm, 90, rfl⟩
abbrev main_v40 : Ref sig .tc := ⟨.hbm, 91, rfl⟩
abbrev main_v41 : Ref sig .tc := ⟨.hbm, 92, rfl⟩
abbrev main_call7_c : Ref sig .tc := ⟨.hbm, 93, rfl⟩
abbrev main_call7_v0 : Ref sig .tc := ⟨.hbm, 94, rfl⟩
abbrev main_call7_v1 : Ref sig .tc := ⟨.hbm, 95, rfl⟩
abbrev main_call7_c_0 : Ref sig .tc := ⟨.hbm, 96, rfl⟩
abbrev main_call7_v2 : Ref sig .tc := ⟨.hbm, 97, rfl⟩
abbrev main_call7_v3 : Ref sig .tc := ⟨.hbm, 98, rfl⟩
abbrev main_call7_v4 : Ref sig .tc := ⟨.hbm, 99, rfl⟩
abbrev main_call7_v5 : Ref sig .tc := ⟨.hbm, 100, rfl⟩
abbrev main_call7_c_1 : Ref sig .tc := ⟨.hbm, 101, rfl⟩
abbrev main_call7_c_2 : Ref sig .tc := ⟨.hbm, 102, rfl⟩
abbrev main_call7_v6 : Ref sig .tc := ⟨.hbm, 103, rfl⟩
abbrev main_call7_v7 : Ref sig .tc := ⟨.hbm, 104, rfl⟩
abbrev main_call7_v8 : Ref sig .tc := ⟨.hbm, 105, rfl⟩
abbrev main_call7_v9 : Ref sig .tc := ⟨.hbm, 106, rfl⟩
abbrev main_call7_v10 : Ref sig .tc := ⟨.hbm, 107, rfl⟩
abbrev main_call7_v11 : Ref sig .tc := ⟨.hbm, 108, rfl⟩
abbrev main_call7_c_3 : Ref sig .tc := ⟨.hbm, 109, rfl⟩
abbrev main_call7_v12 : Ref sig .tc := ⟨.hbm, 110, rfl⟩
abbrev main_call7_v13 : Ref sig .tc := ⟨.hbm, 111, rfl⟩
abbrev main_call7_c_4 : Ref sig .tc := ⟨.hbm, 112, rfl⟩
abbrev main_call7_v14 : Ref sig .tc := ⟨.hbm, 113, rfl⟩
abbrev main_v42 : Ref sig .tc := ⟨.hbm, 114, rfl⟩
abbrev main_cst_13 : Ref sig .tc := ⟨.hbm, 115, rfl⟩
abbrev main_v43 : Ref sig .tc := ⟨.hbm, 116, rfl⟩
abbrev main_v44 : Ref sig .tc := ⟨.hbm, 117, rfl⟩
abbrev main_v45 : Ref sig .tc := ⟨.hbm, 118, rfl⟩
abbrev main_v46 : Ref sig .tc := ⟨.hbm, 119, rfl⟩
abbrev main_v47 : Ref sig .tc := ⟨.hbm, 120, rfl⟩
abbrev main_v48 : Ref sig .tc := ⟨.hbm, 121, rfl⟩
abbrev main_v49 : Ref sig .tc := ⟨.hbm, 122, rfl⟩

abbrev nD : Nat := 1
abbrev τ : Topo := Topo.v7x

variable {F : FTy → Type} [FloatOps F]
-- ==== Proof.Base.lean ====
/-
  The kernel program as the SparseCore launch theorem sees it: its signature, its body table, the resource algebra
  (the handshakes' rounds, the TensorCore pipeline's rounds, the local transfers' counters), the arrays.
-/
module

public import proofs.«01_k».proof.Defs
public import Idealize.ShloMosaic.Lib.SparseCore.Quiescent
public import Idealize.ShloMosaic.Lib.SparseCore.Ops
public import Idealize.ShloMosaic.Lib.StableHlo.Run
public import Idealize.ShloMosaic.Lib.Tactic
public import Idealize.ShloMosaic.Lib.Writes
public import proofs.«01_k».proof.Proof.Gen.KernelIdeal
public import proofs.«01_k».proof.Proof.Gen.KernelIdeal.Launch
public import proofs.«01_k».proof.Proof.Gen.KernelIdeal.Points
public import proofs.«01_k».proof.Proof.Gen.KernelIdeal.Skeleton

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program's tables -/

abbrev ΛP : Labels := Pipeline.Sig Λ₀ (Fin 1) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- The launch semaphores are distinct and unscoped where the launch needs it, and no task shares a buffer. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra -/

abbrev UH : Type := URounds (GSem nD τ sig) ℕ
abbrev UP : Type := URounds (GSem nD τ sig) Unit
abbrev UU : Type := UH × (UP × Counters)

abbrev MM (F : FTy → Type) : Type := MT nD τ sig (HIx 1) (Elt F) ℕ UU ℕ

/-- The handshakes' rounds: the left factor. -/
abbrev EH : Emb UH (MM F) := embL
/-- The pipeline's rounds: the middle factor. -/
def EP : Emb UP (MM F) :=
  ((Emb.inl : Emb UP (UP × Counters)).trans (Emb.inr : Emb (UP × Counters) UU)).trans (uEmb (nD := nD) (sig := sig) (Ix := HIx 1) (Val := Elt F) (Name := ℕ) (U := UU) (Lvl := ℕ)).toEmb
instance EP_landsIn : (EP : Emb UP (MM F)).LandsIn (upEmb : UEmb _ (MM F)) := by unfold EP; infer_instance

/-! ## The arrays, as device `d`'s TensorCore names them -/

/-- The encodings (the argument), the SparseCore's four rows, the TensorCore's twelve rows, the result. -/
abbrev eLoc (d : Dev nD) : Loc nD τ sig := (SparseCore.T d).loc main_arg0
abbrev aLoc (d : Dev nD) : Loc nD τ sig := (SparseCore.T d).loc main_v0
abbrev bLoc (d : Dev nD) : Loc nD τ sig := (SparseCore.T d).loc main_v1
abbrev oLoc (d : Dev nD) : Loc nD τ sig := (SparseCore.T d).loc main_v2

abbrev eV : Memref sig .scVector .hbm S16384x1024 .f32 := Memref.whole main_arg0_scv
abbrev aV : Memref sig .scVector .hbm S4x1024 .f32 := Memref.whole main_v0_scv
abbrev b0 : Memref sig .scVector .vmem S32x128 .f32 := Memref.whole cc0_scratch0
abbrev b1 : Memref sig .scVector .vmem S32x128 .f32 := Memref.whole cc0_scratch1
abbrev b2 : Memref sig .scVector .vmem S32x128 .f32 := Memref.whole cc0_scratch2
abbrev b3 : Memref sig .scVector .vmem S32x128 .f32 := Memref.whole cc0_scratch3
abbrev sA : Memref sig .scVector .vmem S128 .f32 := Memref.whole cc0_scratch4

/-! ## A vector subcore's thread -/

abbrev cV (L : grid0.Coords) : Fin τ.nSC := (L 0).castLE hcore0
abbrev jV (L : grid0.Coords) : Fin τ.nSub := (L 1).castLE hsub0
abbrev thr (d : Dev nD) (L : grid0.Coords) : Thread nD τ := V d (cV L) (jV L)

end Cert.Proof

end
-- ==== Proof.Chunks.lean ====
/-
  The chunks of the encoded array a tile reads, and the value it accumulates from them: tile `L` of the launch adds up
  128 columns of one table (1024 rows), 32 chunks of 32 rows each, through four buffers.
-/
module

public import proofs.«01_k».proof.Proof.Base
public import Idealize.ShloMosaic.Lib.ValueIdxCore
public import Idealize.ShloMosaic.Lib.Pipeline.Value

@[expose] public section

noncomputable section

namespace Cert.Proof
open Cert.KernelIdeal Cert.KernelIdeal.Gen
open Idealize.ShloMosaic
open Idealize.ShloMosaic.ValueIdx
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
variable {F : FTy → Type} [FloatOps F]

/-! ## The chunks -/

/-- The table a tile adds up, and its group of 128 columns. -/
abbrev tOf (L : grid0.Coords) : Nat := (2 * (L 1).val + (L 0).val) / 8
abbrev hOf (L : grid0.Coords) : Nat := (2 * (L 1).val + (L 0).val) % 8

/-- Where chunk `n` of a tile starts: row `1024 t + 32 n`, column `128 h`. -/
abbrev chunkOff (L : grid0.Coords) (n : Fin 32) : Fin 2 → Nat := ![1024 * tOf L + 32 * n.val, 128 * hOf L]

theorem chunk_inb (L : grid0.Coords) (n : Fin 32) : ∀ a, chunkOff L n a + S32x128.size a ≤ S16384x1024.size a := by
  have h0 : (L 0).val < 2 := (L 0).isLt
  have h1 : (L 1).val < 16 := (L 1).isLt
  have := n.isLt
  intro a; fin_cases a
  · show 1024 * ((2 * (L 1).val + (L 0).val) / 8) + 32 * n.val + 32 ≤ 16384; omega
  · show 128 * ((2 * (L 1).val + (L 0).val) % 8) + 128 ≤ 1024; omega

/-- Chunk `n` of a tile: 32 rows of 128 columns of the encoded array. -/
abbrev chunk (L : grid0.Coords) (n : Fin 32) : Memref sig .scVector .hbm S32x128 .f32 :=
  eV.slice (Rect.unit (s := S16384x1024) (chunkOff L n) S32x128.size (chunk_inb L n)) (fun _ => rfl)

/-- The chunk of a given number. -/
def ck (n : ℕ) : Fin 32 := Fin.ofNat 32 n

/-! The offsets the program computes, in closed form. -/

theorem off1_eq : ∀ (L : grid0.Coords) (b : Fin 4), k0_off1 L (BitVec.ofNat 32 (32 * b.val)) = chunkOff L (ck b.val) := by decide +kernel
theorem off2_eq : ∀ (L : grid0.Coords) (t : Fin k0_t1_loop.trips) (b : Fin 4), k0_off2 L t (BitVec.ofNat 32 b.val) = chunkOff L (ck (4 * t.val + b.val)) := by decide +kernel
theorem off11_eq : ∀ (L : grid0.Coords) (t : Fin k0_t1_loop.trips), t.val < 7 → k0_off11 L t = chunkOff L (ck (4 * (t.val + 1) + 0)) := by decide +kernel
theorem off20_eq : ∀ (L : grid0.Coords) (t : Fin k0_t1_loop.trips), t.val < 7 → k0_off20 L t = chunkOff L (ck (4 * (t.val + 1) + 1)) := by decide +kernel
theorem off29_eq : ∀ (L : grid0.Coords) (t : Fin k0_t1_loop.trips), t.val < 7 → k0_off29 L t = chunkOff L (ck (4 * (t.val + 1) + 2)) := by decide +kernel
theorem off38_eq : ∀ (L : grid0.Coords) (t : Fin k0_t1_loop.trips), t.val < 7 → k0_off38 L t = chunkOff L (ck (4 * (t.val + 1) + 3)) := by decide +kernel
theorem off39_eq : ∀ (L : grid0.Coords), k0_off39 L = ![tOf L, 128 * hOf L] := by decide +kernel

/-! Every tile works, and a trip copies the next chunks exactly when it is not the last. -/

theorem cond1 : ∀ (L : grid0.Coords), k0_cond1 L = 1#1 := by decide +kernel
theorem cond2 : ∀ (t : Fin k0_t1_loop.trips), k0_cond2 t = 1#1 ↔ t.val < 7 := by decide +kernel
theorem cond3 : ∀ (t : Fin k0_t1_loop.trips), k0_cond3 t = 1#1 ↔ t.val < 7 := by decide +kernel
theorem cond4 : ∀ (t : Fin k0_t1_loop.trips), k0_cond4 t = 1#1 ↔ t.val < 7 := by decide +kernel
theorem cond5 : ∀ (t : Fin k0_t1_loop.trips), k0_cond5 t = 1#1 ↔ t.val < 7 := by decide +kernel

/-! The slices the program copies from are the chunks. -/

theorem slice_congr {off : Fin 2 → Nat} (L : grid0.Coords) (n : Fin 32) (e : off = chunkOff L n) (hh hs) :
    (eV.slice (Rect.unit (s := S16384x1024) off S32x128.size hh) hs : Memref sig .scVector .hbm S32x128 .f32) = chunk L n :=
  Memref.slice_unit_congr _ e _ _ _ (fun _ => rfl)

@[sl_canon] theorem first0 (L : grid0.Coords) (hh hs) :
    (eV.slice (Rect.unit (s := S16384x1024) (k0_off1 L 0#32) S32x128.size hh) hs : Memref sig .scVector .hbm S32x128 .f32) = chunk L (ck (0)) :=
  slice_congr L _ (off1_eq L 0) _ _
@[sl_canon] theorem first1 (L : grid0.Coords) (hh hs) :
    (eV.slice (Rect.unit (s := S16384x1024) (k0_off1 L 32#32) S32x128.size hh) hs : Memref sig .scVector .hbm S32x128 .f32) = chunk L (ck (1)) :=
  slice_congr L _ (off1_eq L 1) _ _
@[sl_canon] theorem first2 (L : grid0.Coords) (hh hs) :
    (eV.slice (Rect.unit (s := S16384x1024) (k0_off1 L 64#32) S32x128.size hh) hs : Memref sig .scVector .hbm S32x128 .f32) = chunk L (ck (2)) :=
  slice_congr L _ (off1_eq L 2) _ _
@[sl_canon] theorem first3 (L : grid0.Coords) (hh hs) :
    (eV.slice (Rect.unit (s := S16384x1024) (k0_off1 L 96#32) S32x128.size hh) hs : Memref sig .scVector .hbm S32x128 .f32) = chunk L (ck (3)) :=
  slice_congr L _ (off1_eq L 3) _ _
@[sl_canon] theorem waited0 (L : grid0.Coords) (t : Fin k0_t1_loop.trips) (hh hs) :
    (eV.slice (Rect.unit (s := S16384x1024) (k0_off2 L t 0#32) S32x128.size hh) hs : Memref sig .scVector .hbm S32x128 .f32) = chunk L (ck (4 * t.val + 0)) :=
  slice_congr L _ (off2_eq L t 0) _ _
@[sl_canon] theorem waited1 (L : grid0.Coords) (t : Fin k0_t1_loop.trips) (hh hs) :
    (eV.slice (Rect.unit (s := S16384x1024) (k0_off2 L t 1#32) S32x128.size hh) hs : Memref sig .scVector .hbm S32x128 .f32) = chunk L (ck (4 * t.val + 1)) :=
  slice_congr L _ (off2_eq L t 1) _ _
@[sl_canon] theorem waited2 (L : grid0.Coords) (t : Fin k0_t1_loop.trips) (hh hs) :
    (eV.slice (Rect.unit (s := S16384x1024) (k0_off2 L t 2#32) S32x128.size hh) hs : Memref sig .scVector .hbm S32x128 .f32) = chunk L (ck (4 * t.val + 2)) :=
  slice_congr L _ (off2_eq L t 2) _ _
@[sl_canon] theorem waited3 (L : grid0.Coords) (t : Fin k0_t1_loop.trips) (hh hs) :
    (eV.slice (Rect.unit (s := S16384x1024) (k0_off2 L t 3#32) S32x128.size hh) hs : Memref sig .scVector .hbm S32x128 .f32) = chunk L (ck (4 * t.val + 3)) :=
  slice_congr L _ (off2_eq L t 3) _ _
@[sl_canon] theorem next0 (L : grid0.Coords) (t : Fin k0_t1_loop.trips) (h : t.val < 7) (hh hs) :
    (eV.slice (Rect.unit (s := S16384x1024) (k0_off11 L t) S32x128.size hh) hs : Memref sig .scVector .hbm S32x128 .f32) = chunk L (ck (4 * (t.val + 1) + 0)) :=
  slice_congr L _ (off11_eq L t h) _ _
@[sl_canon] theorem next1 (L : grid0.Coords) (t : Fin k0_t1_loop.trips) (h : t.val < 7) (hh hs) :
    (eV.slice (Rect.unit (s := S16384x1024) (k0_off20 L t) S32x128.size hh) hs : Memref sig .scVector .hbm S32x128 .f32) = chunk L (ck (4 * (t.val + 1) + 1)) :=
  slice_congr L _ (off20_eq L t h) _ _
@[sl_canon] theorem next2 (L : grid0.Coords) (t : Fin k0_t1_loop.trips) (h : t.val < 7) (hh hs) :
    (eV.slice (Rect.unit (s := S16384x1024) (k0_off29 L t) S32x128.size hh) hs : Memref sig .scVector .hbm S32x128 .f32) = chunk L (ck (4 * (t.val + 1) + 2)) :=
  slice_congr L _ (off29_eq L t h) _ _
@[sl_canon] theorem next3 (L : grid0.Coords) (t : Fin k0_t1_loop.trips) (h : t.val < 7) (hh hs) :
    (eV.slice (Rect.unit (s := S16384x1024) (k0_off38 L t) S32x128.size hh) hs : Memref sig .scVector .hbm S32x128 .f32) = chunk L (ck (4 * (t.val + 1) + 3)) :=
  slice_congr L _ (off38_eq L t h) _ _

/-! ## The value -/

/-- Column `c` of table `t`, its first `n` rows added in order onto zero. -/
def colSum (X : FVec F S16384x1024 .f32) (t : Nat) (c : Fin 1024) : Nat → F .f32
  | 0 => FloatOps.ofBits .f32 0x00000000#32
  | n + 1 => FloatOps.addf (colSum X t c n) (X (ix2 (Fin.ofNat 16384 (1024 * t + n)) c))

/-- The tile's accumulator `v` (columns `16 v` to `16 v + 15` of its group) after `n` rows. -/
def accV (X : FVec F S16384x1024 .f32) (L : grid0.Coords) (v : Nat) (n : Nat) : FVec F S16 .f32 :=
  fun l => colSum X (tOf L) (Fin.ofNat 1024 (128 * hOf L + 16 * v + (l 0).val)) n

theorem accV_zero (X : FVec F S16384x1024 .f32) (L : grid0.Coords) (v : Nat) : accV X L v 0 = k0_pay27 := rfl

/-- Row `r` of a buffer into which chunk `n` has been copied, sixteen lanes from lane `c` on. -/
theorem load_row (X : FVec F S16384x1024 .f32) (L : grid0.Coords) (n : Fin 32) (b : Memref sig .scVector .vmem S32x128 .f32)
    (f : b.view.ty.Contents (Elt F)) {off : Fin 2 → Nat} (r c : Nat) (hr : r < 32) (hoff : off = ![r, c])
    (inb : ∀ a, off a + S1x16.size a ≤ S32x128.size a) (hc : S1x16.ShapeCasts S16) (l : S16.Idx) :
    shapeCast S16 (View.readAt (Elt F) b.view (Rect.unit (s := S32x128) off S1x16.size inb).toLoadRect
      (View.write (Elt F) b.view f (ReadAs.same.apply ((chunk L n).view.read (Elt F) X)) Finset.univ)) hc l
    = X (ix2 (Fin.ofNat 16384 (1024 * tOf L + (32 * n.val + r))) (Fin.ofNat 1024 (128 * hOf L + c + (l 0).val))) := by
  subst hoff
  have hl : (l 0).val < 16 := (l 0).isLt
  have h0 : (L 0).val < 2 := (L 0).isLt
  have h1 : (L 1).val < 16 := (L 1).isLt
  have hcc : c + 16 ≤ 128 := inb 1
  rw [shapeCast_apply _ hc l (ix2 0 (l 0)) (by
    rw [Shape.rowMajor_val_two, Shape.rowMajor_val_one]; show 0 * 16 + (l 0).val = (l 0).val; omega)]
  rw [View.readAt_apply, View.read_write_univ]
  show X _ = X _
  congr 1
  funext a
  apply Fin.ext
  match a with
  | ⟨0, _⟩ =>
    show 1024 * ((2 * (L 1).val + (L 0).val) / 8) + 32 * n.val + 1 * (r + 1 * 0) = (1024 * ((2 * (L 1).val + (L 0).val) / 8) + (32 * n.val + r)) % 16384
    omega
  | ⟨1, _⟩ =>
    show 128 * ((2 * (L 1).val + (L 0).val) % 8) + 1 * (c + 1 * (l 0).val) = (128 * ((2 * (L 1).val + (L 0).val) % 8) + c + (l 0).val) % 1024
    omega

/-- Adding that row to an accumulator takes it one row further. -/
theorem pay_step (X : FVec F S16384x1024 .f32) (L : grid0.Coords) (n : Fin 32) (b : Memref sig .scVector .vmem S32x128 .f32)
    (f : b.view.ty.Contents (Elt F)) {off : Fin 2 → Nat} (r v : Nat) (hr : r < 32) (hoff : off = ![r, 16 * v])
    (inb : ∀ a, off a + S1x16.size a ≤ S32x128.size a) (hc : S1x16.ShapeCasts S16) :
    (addf (accV X L v (32 * n.val + r)) (shapeCast S16 (View.readAt (Elt F) b.view (Rect.unit (s := S32x128) off S1x16.size inb).toLoadRect
      (View.write (Elt F) b.view f (ReadAs.same.apply ((chunk L n).view.read (Elt F) X)) Finset.univ)) hc) : FVec F S16 .f32)
    = accV X L v (32 * n.val + (r + 1)) := by
  funext l
  exact congrArg (FloatOps.addf (accV X L v (32 * n.val + r) l)) (load_row X L n b f r (16 * v) hr hoff inb hc l)
/-- The accumulators a tile carries round its loops. -/
abbrev Acc (F : FTy → Type) : Type :=
  FVec F S16 .f32 × FVec F S16 .f32 × FVec F S16 .f32 × FVec F S16 .f32 × FVec F S16 .f32 × FVec F S16 .f32 × FVec F S16 .f32 × FVec F S16 .f32

/-- The eight accumulators after `n` rows. -/
def accs (X : FVec F S16384x1024 .f32) (L : grid0.Coords) (n : Nat) : Acc F :=
  (accV X L 0 n, accV X L 1 n, accV X L 2 n, accV X L 3 n, accV X L 4 n, accV X L 5 n, accV X L 6 n, accV X L 7 n)

end Cert.Proof

end
-- ==== Proof.Tile.lean ====
/-
  One SparseCore tile's run: its body at symbolic coordinates, carrying the value.
-/
module

public import proofs.«01_k».proof.Proof.Chunks

@[expose] public section

noncomputable section

namespace Cert.Proof
open Cert.KernelIdeal Cert.KernelIdeal.Gen
open Idealize.ShloMosaic
open Idealize.ShloMosaic.ValueIdx
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
variable {F : FTy → Type} [FloatOps F]

local notation "𝕄" => MT nD τ sig (HIx 1) (Elt F) ℕ UU ℕ

/-- What a buffer holds when chunk `n` has been copied into it. -/
abbrev landed (b : Memref sig .scVector .vmem S32x128 .f32) (L : grid0.Coords) (X : FVec F S16384x1024 .f32) (n : Fin 32)
    (f : b.view.ty.Contents (Elt F)) : b.view.ty.Contents (Elt F) :=
  View.write (Elt F) b.view f (ReadAs.same.apply ((chunk L n).view.read (Elt F) X)) Finset.univ

/-- A loop over a buffer's rows, before its row `j`: the buffer at chunk `n`, the accumulators at the rows so far. -/
def rowsInv (b : Memref sig .scVector .vmem S32x128 .f32) (d : Dev nD) (L : grid0.Coords) (X : FVec F S16384x1024 .f32) (n : Fin 32)
    (f : Buf (Elt F) (b.view.loc (thr d L))) (j : Nat) (a : Acc F) : sProp 𝕄 :=
  iprop((b.view.loc (thr d L) ↦{fullShare} landed b L X n f) ∗ ⌜a = accs X L (32 * n.val + j)⌝)

/-- One row of buffer 0. -/
theorem row0 (d : Dev nD) (L : grid0.Coords) (X : FVec F S16384x1024 .f32) (f : Buf (Elt F) (b0.view.loc (thr d L))) (h1 : k0_cond1 L = 1#1)
    (n : Fin 32) (v32 : BitVec 32) (c0 c1 : BitVec 32) (t1 : Fin k0_t1_loop.trips) (g0 g1 g2 g3 g4 g5 g6 g7 : FVec F S16 .f32) (k : Fin k0_t2_loop.trips) (a : Acc F) :
    rowsInv b0 d L X n f k.val a
    ⊢ wp frame (wpE (defs₀ (F := F)) 𝒱₀ (thr d L) none) Set.univ
        (k0_t2_body L eV (Memref.isWhole_whole _) aV (Memref.isWhole_whole _) b0 (Memref.isWhole_whole _) b1 (Memref.isWhole_whole _) b2 (Memref.isWhole_whole _) b3 (Memref.isWhole_whole _) sA (Memref.isWhole_whole _) cc0_scratch5 cc0_scratch6 cc0_scratch7 cc0_scratch8 cc0_scoped0 h1 v32 c0 c1 t1 g0 g1 g2 g3 g4 g5 g6 g7 k a)
        (rowsInv b0 d L X n f (k.val + 1)) := by
  unfold rowsInv
  iintro ⟨Hb, %e⟩
  subst e
  sl_exec
  sl_step
  isplitl [Hb]; · iexact Hb
  ipureintro
  have p := fun (v : Nat) {off : Fin 2 → Nat} (e : off = ![k.val, 16 * v]) inb => pay_step X L n b0 f k.val v k.isLt e inb shapeCasts_S1x16_S16
  exact Prod.ext (p 0 (k0_off3_eq k) _) <| Prod.ext (p 1 (k0_off4_eq k) _) <| Prod.ext (p 2 (k0_off5_eq k) _) <| Prod.ext (p 3 (k0_off6_eq k) _) <| Prod.ext (p 4 (k0_off7_eq k) _) <| Prod.ext (p 5 (k0_off8_eq k) _) <| Prod.ext (p 6 (k0_off9_eq k) _) (p 7 (k0_off10_eq k) _)

/-- One row of buffer 1. -/
theorem row1 (d : Dev nD) (L : grid0.Coords) (X : FVec F S16384x1024 .f32) (f : Buf (Elt F) (b1.view.loc (thr d L))) (h1 : k0_cond1 L = 1#1)
    (n : Fin 32) (v32 : BitVec 32) (c0 c1 : BitVec 32) (t1 : Fin k0_t1_loop.trips) (g0 g1 g2 g3 g4 g5 g6 g7 : FVec F S16 .f32) (k : Fin k0_t3_loop.trips) (a : Acc F) :
    rowsInv b1 d L X n f k.val a
    ⊢ wp frame (wpE (defs₀ (F := F)) 𝒱₀ (thr d L) none) Set.univ
        (k0_t3_body L eV (Memref.isWhole_whole _) aV (Memref.isWhole_whole _) b0 (Memref.isWhole_whole _) b1 (Memref.isWhole_whole _) b2 (Memref.isWhole_whole _) b3 (Memref.isWhole_whole _) sA (Memref.isWhole_whole _) cc0_scratch5 cc0_scratch6 cc0_scratch7 cc0_scratch8 cc0_scoped0 h1 v32 c0 c1 t1 g0 g1 g2 g3 g4 g5 g6 g7 k a)
        (rowsInv b1 d L X n f (k.val + 1)) := by
  unfold rowsInv
  iintro ⟨Hb, %e⟩
  subst e
  sl_exec
  sl_step
  isplitl [Hb]; · iexact Hb
  ipureintro
  have p := fun (v : Nat) {off : Fin 2 → Nat} (e : off = ![k.val, 16 * v]) inb => pay_step X L n b1 f k.val v k.isLt e inb shapeCasts_S1x16_S16
  exact Prod.ext (p 0 (k0_off12_eq k) _) <| Prod.ext (p 1 (k0_off13_eq k) _) <| Prod.ext (p 2 (k0_off14_eq k) _) <| Prod.ext (p 3 (k0_off15_eq k) _) <| Prod.ext (p 4 (k0_off16_eq k) _) <| Prod.ext (p 5 (k0_off17_eq k) _) <| Prod.ext (p 6 (k0_off18_eq k) _) (p 7 (k0_off19_eq k) _)

/-- One row of buffer 2. -/
theorem row2 (d : Dev nD) (L : grid0.Coords) (X : FVec F S16384x1024 .f32) (f : Buf (Elt F) (b2.view.loc (thr d L))) (h1 : k0_cond1 L = 1#1)
    (n : Fin 32) (v32 : BitVec 32) (c0 c1 : BitVec 32) (t1 : Fin k0_t1_loop.trips) (g0 g1 g2 g3 g4 g5 g6 g7 : FVec F S16 .f32) (k : Fin k0_t4_loop.trips) (a : Acc F) :
    rowsInv b2 d L X n f k.val a
    ⊢ wp frame (wpE (defs₀ (F := F)) 𝒱₀ (thr d L) none) Set.univ
        (k0_t4_body L eV (Memref.isWhole_whole _) aV (Memref.isWhole_whole _) b0 (Memref.isWhole_whole _) b1 (Memref.isWhole_whole _) b2 (Memref.isWhole_whole _) b3 (Memref.isWhole_whole _) sA (Memref.isWhole_whole _) cc0_scratch5 cc0_scratch6 cc0_scratch7 cc0_scratch8 cc0_scoped0 h1 v32 c0 c1 t1 g0 g1 g2 g3 g4 g5 g6 g7 k a)
        (rowsInv b2 d L X n f (k.val + 1)) := by
  unfold rowsInv
  iintro ⟨Hb, %e⟩
  subst e
  sl_exec
  sl_step
  isplitl [Hb]; · iexact Hb
  ipureintro
  have p := fun (v : Nat) {off : Fin 2 → Nat} (e : off = ![k.val, 16 * v]) inb => pay_step X L n b2 f k.val v k.isLt e inb shapeCasts_S1x16_S16
  exact Prod.ext (p 0 (k0_off21_eq k) _) <| Prod.ext (p 1 (k0_off22_eq k) _) <| Prod.ext (p 2 (k0_off23_eq k) _) <| Prod.ext (p 3 (k0_off24_eq k) _) <| Prod.ext (p 4 (k0_off25_eq k) _) <| Prod.ext (p 5 (k0_off26_eq k) _) <| Prod.ext (p 6 (k0_off27_eq k) _) (p 7 (k0_off28_eq k) _)

/-- One row of buffer 3. -/
theorem row3 (d : Dev nD) (L : grid0.Coords) (X : FVec F S16384x1024 .f32) (f : Buf (Elt F) (b3.view.loc (thr d L))) (h1 : k0_cond1 L = 1#1)
    (n : Fin 32) (v32 : BitVec 32) (c0 : BitVec 32) (k : Fin k0_t5_loop.trips) (a : Acc F) :
    rowsInv b3 d L X n f k.val a
    ⊢ wp frame (wpE (defs₀ (F := F)) 𝒱₀ (thr d L) none) Set.univ
        (k0_t5_body L eV (Memref.isWhole_whole _) aV (Memref.isWhole_whole _) b0 (Memref.isWhole_whole _) b1 (Memref.isWhole_whole _) b2 (Memref.isWhole_whole _) b3 (Memref.isWhole_whole _) sA (Memref.isWhole_whole _) cc0_scratch5 cc0_scratch6 cc0_scratch7 cc0_scratch8 cc0_scoped0 h1 v32 c0 k a)
        (rowsInv b3 d L X n f (k.val + 1)) := by
  unfold rowsInv
  iintro ⟨Hb, %e⟩
  subst e
  sl_exec
  sl_step
  isplitl [Hb]; · iexact Hb
  ipureintro
  have p := fun (v : Nat) {off : Fin 2 → Nat} (e : off = ![k.val, 16 * v]) inb => pay_step X L n b3 f k.val v k.isLt e inb shapeCasts_S1x16_S16
  exact Prod.ext (p 0 (k0_off30_eq k) _) <| Prod.ext (p 1 (k0_off31_eq k) _) <| Prod.ext (p 2 (k0_off32_eq k) _) <| Prod.ext (p 3 (k0_off33_eq k) _) <| Prod.ext (p 4 (k0_off34_eq k) _) <| Prod.ext (p 5 (k0_off35_eq k) _) <| Prod.ext (p 6 (k0_off36_eq k) _) (p 7 (k0_off37_eq k) _)

/-- Chunk `n` on its way into a buffer, on semaphore `s`, out of the read share of `s`'s number. -/
abbrev flying (b : Memref sig .scVector .vmem S32x128 .f32) (s : DmaSems sig S_) (i : ℕ) (d : Dev nD) (L : grid0.Coords)
    (X : FVec F S16384x1024 .f32) (q : PosShare TreeShare) (n : Fin 32) : sProp 𝕄 :=
  iprop((∃ f : Buf (Elt F) (b.view.loc (thr d L)), Transfers.Flight countersEmb (thr d L) (SemLoc.dma s.sem) (default : HIx 1) 131072
      iprop((b.view.loc (thr d L) ↦{fullShare} landed b L X n f) ∗ (eV.view.loc (thr d L) ↦[(chunk L n).view.set]{Transfers.shareTokN q i} X)))
    ∗ (eV.view.loc (thr d L) ↦[Finset.univ \ (chunk L n).view.set]{Transfers.shareTokN q i} X))

/-- A buffer at rest: nothing on its way into it. -/
abbrev resting (b : Memref sig .scVector .vmem S32x128 .f32) (s : DmaSems sig S_) (i : ℕ) (d : Dev nD) (L : grid0.Coords)
    (X : FVec F S16384x1024 .f32) (q : PosShare TreeShare) : sProp 𝕄 :=
  iprop((∃ f : Buf (Elt F) (b.view.loc (thr d L)), b.view.loc (thr d L) ↦{fullShare} f) ∗ semVal (thr d L, SemLoc.dma s.sem) 0
    ∗ (eV.view.loc (thr d L) ↦{Transfers.shareTokN q i} X))

/-- The waits recorded so far: the caller's, and some on the transfers' own semaphores. -/
abbrev owing (d : Dev nD) (L : grid0.Coords) (O : CellTallies nD τ sig (HIx 1)) (W : Waits sig (HIx 1)) : sProp 𝕄 :=
  iprop(∃ W', ⌜∀ p ∈ W', p ∈ W ∨ p.2 = none⌝ ∗ owes (thr d L) O W')

/-- The four buffers with chunks `4 k` to `4 k + 3` on their way. -/
abbrev allFlying (d : Dev nD) (L : grid0.Coords) (X : FVec F S16384x1024 .f32) (q : PosShare TreeShare) (k : Nat) : sProp 𝕄 :=
  iprop(flying b0 cc0_scratch5 0 d L X q (ck (4 * k + 0)) ∗ flying b1 cc0_scratch6 1 d L X q (ck (4 * k + 1))
    ∗ flying b2 cc0_scratch7 2 d L X q (ck (4 * k + 2)) ∗ flying b3 cc0_scratch8 3 d L X q (ck (4 * k + 3)))

/-- The four buffers at rest. -/
abbrev allResting (d : Dev nD) (L : grid0.Coords) (X : FVec F S16384x1024 .f32) (q : PosShare TreeShare) : sProp 𝕄 :=
  iprop(resting b0 cc0_scratch5 0 d L X q ∗ resting b1 cc0_scratch6 1 d L X q
    ∗ resting b2 cc0_scratch7 2 d L X q ∗ resting b3 cc0_scratch8 3 d L X q)

/-- Before trip `k`: the accumulators at their first `128 k` rows, the trip's four chunks on their way, or, past the
    last trip, the buffers at rest. -/
def tripInv (d : Dev nD) (L : grid0.Coords) (X : FVec F S16384x1024 .f32) (q : PosShare TreeShare) (O : CellTallies nD τ sig (HIx 1))
    (W : Waits sig (HIx 1)) (k : Nat) (a : Acc F) : sProp 𝕄 :=
  iprop(Transfers.MayWaits (thr d L) (none : HIx 1) O ∗ ⌜a = accs X L (128 * k)⌝
    ∗ (if k < 8 then allFlying d L X q k else allResting d L X q) ∗ owing d L O W)

/-- The rows of a trip's buffer `b`: from row `32 b` of the trip's 128 on. -/
theorem accs_at (X : FVec F S16384x1024 .f32) (L : grid0.Coords) {k : Nat} (hk : k < 8) {b j r : Nat} (hb : b < 4) (hr : r = 128 * k + (32 * b + j)) :
    accs X L r = accs X L (32 * (ck (4 * k + b)).val + j) := by
  have : (ck (4 * k + b)).val = 4 * k + b := by show (4 * k + b) % 32 = _; omega
  rw [this, hr]; congr 1; omega

/-- Recording a wait on a transfer's own semaphore keeps the record's form. -/
theorem owing_insert {W W' : Waits sig (HIx 1)} (s : SemLoc sig) (h : ∀ p ∈ W', p ∈ W ∨ p.2 = none) :
    ∀ p ∈ insert (s, (default : HIx 1)) W', p ∈ W ∨ p.2 = none := fun p hp => by
  rcases Finset.mem_insert.mp hp with hp | hp
  · exact .inr (hp ▸ rfl)
  · exact h p hp

/-- A trip that starts the next trip's copies. -/
theorem trip_next (d : Dev nD) (L : grid0.Coords) (X : FVec F S16384x1024 .f32) (q : PosShare TreeShare) (O : CellTallies nD τ sig (HIx 1))
    (W : Waits sig (HIx 1)) (h1 : k0_cond1 L = 1#1) (v32 c96 : BitVec 32) (k : Fin k0_t1_loop.trips) (a : Acc F) (hk : k.val < 7) :
    iprop(Transfers.MayWaits (thr d L) (none : HIx 1) O ∗ ⌜a = accs X L (128 * k.val)⌝ ∗ allFlying d L X q k.val ∗ owing d L O W)
    ⊢ wp frame (wpE (defs₀ (F := F)) 𝒱₀ (thr d L) none) Set.univ
        (k0_t1_body L eV (Memref.isWhole_whole _) aV (Memref.isWhole_whole _) b0 (Memref.isWhole_whole _) b1 (Memref.isWhole_whole _) b2 (Memref.isWhole_whole _) b3 (Memref.isWhole_whole _) sA (Memref.isWhole_whole _) cc0_scratch5 cc0_scratch6 cc0_scratch7 cc0_scratch8 cc0_scoped0 h1 v32 c96 k a)
        fun a => iprop(Transfers.MayWaits (thr d L) (none : HIx 1) O ∗ ⌜a = accs X L (128 * (k.val + 1))⌝ ∗ allFlying d L X q (k.val + 1) ∗ owing d L O W) := by
  have hk8 : k.val < 8 := k.isLt
  have c2 : k0_cond2 k = 1#1 := (cond2 k).mpr hk
  have c3 : k0_cond3 k = 1#1 := (cond3 k).mpr hk
  have c4 : k0_cond4 k = 1#1 := (cond4 k).mpr hk
  have c5 : k0_cond5 k = 1#1 := (cond5 k).mpr hk
  iintro ⟨#Hmw, %e, ⟨⟨⟨%f0, Hf0⟩, He0⟩, ⟨⟨%f1, Hf1⟩, He1⟩, ⟨⟨%f2, Hf2⟩, He2⟩, ⟨⟨%f3, Hf3⟩, He3⟩⟩, %W1, %hW1, HO⟩
  subst e
  sl_exec
  sl_for (rowsInv b0 d L X (ck (4 * k.val + 0)) f0) $$ [Hf0_dst]
  case region => exact row0 d L X f0 h1 (ck (4 * k.val + 0)) _ _ _ _ _ _ _ _ _ _ _ _
  · unfold rowsInv; isplitl [Hf0_dst]; · iexact Hf0_dst
    ipureintro; exact accs_at X L (r := 128 * k.val + 32 * 0) hk8 (by omega) (by omega)
  iintro %a0 HI
  unfold rowsInv
  icases HI with ⟨Hb0, %e0⟩
  obtain rfl : a0 = accs X L (128 * k.val + 32 * (0 + 1)) := e0.trans (accs_at X L hk8 (by omega) (by show _ = 128 * k.val + (32 * 0 + 32); omega)).symm
  sl_exec
  sl_for (rowsInv b1 d L X (ck (4 * k.val + 1)) f1) $$ [Hf1_dst]
  case region => exact row1 d L X f1 h1 (ck (4 * k.val + 1)) _ _ _ _ _ _ _ _ _ _ _ _
  · unfold rowsInv; isplitl [Hf1_dst]; · iexact Hf1_dst
    ipureintro; exact accs_at X L (r := 128 * k.val + 32 * 1) hk8 (by omega) (by omega)
  iintro %a1 HI
  unfold rowsInv
  icases HI with ⟨Hb1, %e1⟩
  obtain rfl : a1 = accs X L (128 * k.val + 32 * (1 + 1)) := e1.trans (accs_at X L hk8 (by omega) (by show _ = 128 * k.val + (32 * 1 + 32); omega)).symm
  sl_exec
  sl_for (rowsInv b2 d L X (ck (4 * k.val + 2)) f2) $$ [Hf2_dst]
  case region => exact row2 d L X f2 h1 (ck (4 * k.val + 2)) _ _ _ _ _ _ _ _ _ _ _ _
  · unfold rowsInv; isplitl [Hf2_dst]; · iexact Hf2_dst
    ipureintro; exact accs_at X L (r := 128 * k.val + 32 * 2) hk8 (by omega) (by omega)
  iintro %a2 HI
  unfold rowsInv
  icases HI with ⟨Hb2, %e2⟩
  obtain rfl : a2 = accs X L (128 * k.val + 32 * (2 + 1)) := e2.trans (accs_at X L hk8 (by omega) (by show _ = 128 * k.val + (32 * 2 + 32); omega)).symm
  sl_exec
  sl_for (rowsInv b3 d L X (ck (4 * k.val + 3)) f3) $$ [Hf3_dst]
  case region => exact row3 d L X f3 h1 (ck (4 * k.val + 3)) _ _
  · unfold rowsInv; isplitl [Hf3_dst]; · iexact Hf3_dst
    ipureintro; exact accs_at X L (r := 128 * k.val + 32 * 3) hk8 (by omega) (by omega)
  iintro %a3 HI
  unfold rowsInv
  icases HI with ⟨Hb3, %e3⟩
  obtain rfl : a3 = accs X L (128 * k.val + 32 * (3 + 1)) := e3.trans (accs_at X L hk8 (by omega) (by show _ = 128 * k.val + (32 * 3 + 32); omega)).symm
  sl_exec
  sl_step
  isplitr; · iexact Hmw
  isplitr
  · ipureintro; exact congrArg (accs X L) (show 128 * k.val + 32 * (3 + 1) = 128 * (k.val + 1) by omega)
  isplitr [HO]
  · isplitl [Hf0 He0]; · isplitl [Hf0]; · iexists _; iexact Hf0
                         · iexact He0
    isplitl [Hf1 He1]; · isplitl [Hf1]; · iexists _; iexact Hf1
                         · iexact He1
    isplitl [Hf2 He2]; · isplitl [Hf2]; · iexists _; iexact Hf2
                         · iexact He2
    isplitl [Hf3]; · iexists _; iexact Hf3
    · iexact He3
  iexists (insert (SemLoc.dma cc0_scratch8.sem, (default : HIx 1)) (insert (SemLoc.dma cc0_scratch7.sem, (default : HIx 1))
    (insert (SemLoc.dma cc0_scratch6.sem, (default : HIx 1)) (insert (SemLoc.dma cc0_scratch5.sem, (default : HIx 1)) W1)))); isplitr
  · ipureintro; exact owing_insert _ (owing_insert _ (owing_insert _ (owing_insert _ hW1)))
  · iexact HO

/-- The last trip: nothing more to copy. -/
theorem trip_last (d : Dev nD) (L : grid0.Coords) (X : FVec F S16384x1024 .f32) (q : PosShare TreeShare) (O : CellTallies nD τ sig (HIx 1))
    (W : Waits sig (HIx 1)) (h1 : k0_cond1 L = 1#1) (v32 c96 : BitVec 32) (k : Fin k0_t1_loop.trips) (a : Acc F) (hk : ¬ k.val < 7) :
    iprop(Transfers.MayWaits (thr d L) (none : HIx 1) O ∗ ⌜a = accs X L (128 * k.val)⌝ ∗ allFlying d L X q k.val ∗ owing d L O W)
    ⊢ wp frame (wpE (defs₀ (F := F)) 𝒱₀ (thr d L) none) Set.univ
        (k0_t1_body L eV (Memref.isWhole_whole _) aV (Memref.isWhole_whole _) b0 (Memref.isWhole_whole _) b1 (Memref.isWhole_whole _) b2 (Memref.isWhole_whole _) b3 (Memref.isWhole_whole _) sA (Memref.isWhole_whole _) cc0_scratch5 cc0_scratch6 cc0_scratch7 cc0_scratch8 cc0_scoped0 h1 v32 c96 k a)
        fun a => iprop(Transfers.MayWaits (thr d L) (none : HIx 1) O ∗ ⌜a = accs X L (128 * (k.val + 1))⌝ ∗ allResting d L X q ∗ owing d L O W) := by
  have hk8 : k.val < 8 := k.isLt
  have c2 : ¬ k0_cond2 k = 1#1 := mt (cond2 k).mp hk
  have c3 : ¬ k0_cond3 k = 1#1 := mt (cond3 k).mp hk
  have c4 : ¬ k0_cond4 k = 1#1 := mt (cond4 k).mp hk
  have c5 : ¬ k0_cond5 k = 1#1 := mt (cond5 k).mp hk
  iintro ⟨#Hmw, %e, ⟨⟨⟨%f0, Hf0⟩, He0⟩, ⟨⟨%f1, Hf1⟩, He1⟩, ⟨⟨%f2, Hf2⟩, He2⟩, ⟨⟨%f3, Hf3⟩, He3⟩⟩, %W1, %hW1, HO⟩
  subst e
  sl_exec
  sl_for (rowsInv b0 d L X (ck (4 * k.val + 0)) f0) $$ [Hf0_dst]
  case region => exact row0 d L X f0 h1 (ck (4 * k.val + 0)) _ _ _ _ _ _ _ _ _ _ _ _
  · unfold rowsInv; isplitl [Hf0_dst]; · iexact Hf0_dst
    ipureintro; exact accs_at X L (r := 128 * k.val + 32 * 0) hk8 (by omega) (by omega)
  iintro %a0 HI
  unfold rowsInv
  icases HI with ⟨Hb0, %e0⟩
  obtain rfl : a0 = accs X L (128 * k.val + 32 * (0 + 1)) := e0.trans (accs_at X L hk8 (by omega) (by show _ = 128 * k.val + (32 * 0 + 32); omega)).symm
  sl_exec
  sl_for (rowsInv b1 d L X (ck (4 * k.val + 1)) f1) $$ [Hf1_dst]
  case region => exact row1 d L X f1 h1 (ck (4 * k.val + 1)) _ _ _ _ _ _ _ _ _ _ _ _
  · unfold rowsInv; isplitl [Hf1_dst]; · iexact Hf1_dst
    ipureintro; exact accs_at X L (r := 128 * k.val + 32 * 1) hk8 (by omega) (by omega)
  iintro %a1 HI
  unfold rowsInv
  icases HI with ⟨Hb1, %e1⟩
  obtain rfl : a1 = accs X L (128 * k.val + 32 * (1 + 1)) := e1.trans (accs_at X L hk8 (by omega) (by show _ = 128 * k.val + (32 * 1 + 32); omega)).symm
  sl_exec
  sl_for (rowsInv b2 d L X (ck (4 * k.val + 2)) f2) $$ [Hf2_dst]
  case region => exact row2 d L X f2 h1 (ck (4 * k.val + 2)) _ _ _ _ _ _ _ _ _ _ _ _
  · unfold rowsInv; isplitl [Hf2_dst]; · iexact Hf2_dst
    ipureintro; exact accs_at X L (r := 128 * k.val + 32 * 2) hk8 (by omega) (by omega)
  iintro %a2 HI
  unfold rowsInv
  icases HI with ⟨Hb2, %e2⟩
  obtain rfl : a2 = accs X L (128 * k.val + 32 * (2 + 1)) := e2.trans (accs_at X L hk8 (by omega) (by show _ = 128 * k.val + (32 * 2 + 32); omega)).symm
  sl_exec
  sl_for (rowsInv b3 d L X (ck (4 * k.val + 3)) f3) $$ [Hf3_dst]
  case region => exact row3 d L X f3 h1 (ck (4 * k.val + 3)) _ _
  · unfold rowsInv; isplitl [Hf3_dst]; · iexact Hf3_dst
    ipureintro; exact accs_at X L (r := 128 * k.val + 32 * 3) hk8 (by omega) (by omega)
  iintro %a3 HI
  unfold rowsInv
  icases HI with ⟨Hb3, %e3⟩
  obtain rfl : a3 = accs X L (128 * k.val + 32 * (3 + 1)) := e3.trans (accs_at X L hk8 (by omega) (by show _ = 128 * k.val + (32 * 3 + 32); omega)).symm
  sl_exec
  sl_step
  isplitr; · iexact Hmw
  isplitr
  · ipureintro; exact congrArg (accs X L) (show 128 * k.val + 32 * (3 + 1) = 128 * (k.val + 1) by omega)
  isplitr [HO]
  · isplitl [Hb0 Hf0 He0]; · isplitl [Hb0]; · iexists _; iexact Hb0
                             isplitl [Hf0]; · iexact Hf0
                             · iexact He0
    isplitl [Hb1 Hf1 He1]; · isplitl [Hb1]; · iexists _; iexact Hb1
                             isplitl [Hf1]; · iexact Hf1
                             · iexact He1
    isplitl [Hb2 Hf2 He2]; · isplitl [Hb2]; · iexists _; iexact Hb2
                             isplitl [Hf2]; · iexact Hf2
                             · iexact He2
    isplitl [Hb3]; · iexists _; iexact Hb3
    isplitl [Hf3]; · iexact Hf3
    · iexact He3
  iexists (insert (SemLoc.dma cc0_scratch8.sem, (default : HIx 1)) (insert (SemLoc.dma cc0_scratch7.sem, (default : HIx 1))
    (insert (SemLoc.dma cc0_scratch6.sem, (default : HIx 1)) (insert (SemLoc.dma cc0_scratch5.sem, (default : HIx 1)) W1)))); isplitr
  · ipureintro; exact owing_insert _ (owing_insert _ (owing_insert _ (owing_insert _ hW1)))
  · iexact HO

/-- The invariant before a trip that is made, and past the last one. -/
theorem tripInv_lt (d : Dev nD) (L : grid0.Coords) (X : FVec F S16384x1024 .f32) (q : PosShare TreeShare) (O : CellTallies nD τ sig (HIx 1))
    (W : Waits sig (HIx 1)) {k : Nat} (hk : k < 8) :
    tripInv d L X q O W k = fun a => iprop(Transfers.MayWaits (thr d L) (none : HIx 1) O ∗ ⌜a = accs X L (128 * k)⌝
      ∗ allFlying d L X q k ∗ owing d L O W) := by
  funext a; unfold tripInv; rw [if_pos hk]

theorem tripInv_ge (d : Dev nD) (L : grid0.Coords) (X : FVec F S16384x1024 .f32) (q : PosShare TreeShare) (O : CellTallies nD τ sig (HIx 1))
    (W : Waits sig (HIx 1)) {k : Nat} (hk : ¬ k < 8) :
    tripInv d L X q O W k = fun a => iprop(Transfers.MayWaits (thr d L) (none : HIx 1) O ∗ ⌜a = accs X L (128 * k)⌝
      ∗ allResting d L X q ∗ owing d L O W) := by
  funext a; unfold tripInv; rw [if_neg hk]

/-- One trip of the loop over the chunks. -/
theorem trip (d : Dev nD) (L : grid0.Coords) (X : FVec F S16384x1024 .f32) (q : PosShare TreeShare) (O : CellTallies nD τ sig (HIx 1))
    (W : Waits sig (HIx 1)) (h1 : k0_cond1 L = 1#1) (v32 c96 : BitVec 32) (k : Fin k0_t1_loop.trips) (a : Acc F) :
    tripInv d L X q O W k.val a
    ⊢ wp frame (wpE (defs₀ (F := F)) 𝒱₀ (thr d L) none) Set.univ
        (k0_t1_body L eV (Memref.isWhole_whole _) aV (Memref.isWhole_whole _) b0 (Memref.isWhole_whole _) b1 (Memref.isWhole_whole _) b2 (Memref.isWhole_whole _) b3 (Memref.isWhole_whole _) sA (Memref.isWhole_whole _) cc0_scratch5 cc0_scratch6 cc0_scratch7 cc0_scratch8 cc0_scoped0 h1 v32 c96 k a)
        (tripInv d L X q O W (k.val + 1)) := by
  have hk8 : k.val < 8 := k.isLt
  by_cases hk : k.val < 7
  · rw [tripInv_lt d L X q O W hk8, tripInv_lt d L X q O W (show k.val + 1 < 8 by omega)]
    exact trip_next d L X q O W h1 v32 c96 k a hk
  · rw [tripInv_lt d L X q O W hk8, tripInv_ge d L X q O W (show ¬ k.val + 1 < 8 by omega)]
    exact trip_last d L X q O W h1 v32 c96 k a hk

/-- The tile's slice of the SparseCore's result: row `t`, 128 columns. -/
theorem out_inb (L : grid0.Coords) : ∀ a, (![tOf L, 128 * hOf L] : Fin 2 → Nat) a + S1x128.size a ≤ S4x1024.size a := by
  have h0 : (L 0).val < 2 := (L 0).isLt
  have h1 : (L 1).val < 16 := (L 1).isLt
  intro a; fin_cases a
  · show (2 * (L 1).val + (L 0).val) / 8 + 1 ≤ 4; omega
  · show 128 * ((2 * (L 1).val + (L 0).val) % 8) + 128 ≤ 1024; omega

abbrev outAt (L : grid0.Coords) : Memref sig .scVector .hbm S128 .f32 :=
  (aV.slice (Rect.unit (s := S4x1024) ![tOf L, 128 * hOf L] S1x128.size (out_inb L)) (fun _ => rfl)).squeeze S128 squeezes_S1x128_S128

@[sl_canon] theorem outAt_eq (L : grid0.Coords) (hh hs) :
    ((aV.slice (Rect.unit (s := S4x1024) (k0_off39 L) S1x128.size hh) hs).squeeze S128 squeezes_S1x128_S128 : Memref sig .scVector .hbm S128 .f32) = outAt L := by
  have : (aV.slice (Rect.unit (s := S4x1024) (k0_off39 L) S1x128.size hh) hs : Memref sig .scVector .hbm S1x128 .f32)
      = aV.slice (Rect.unit (s := S4x1024) ![tOf L, 128 * hOf L] S1x128.size (out_inb L)) (fun _ => rfl) :=
    Memref.slice_unit_congr _ (off39_eq L) _ _ _ (fun _ => rfl)
  rw [this]

/-- The SparseCore's result: each column of its four tables, added up in row order and scaled by 2⁻¹⁰. -/
def scOut (X : FVec F S16384x1024 .f32) : FVec F S4x1024 .f32 :=
  fun i => FloatOps.mulf (colSum X (i 0).val (i 1) 1024) (FloatOps.ofBits .f32 0x3A800000#32)

/-- The tile's 128 results. -/
def tileOut (X : FVec F S16384x1024 .f32) (L : grid0.Coords) : FVec F S128 .f32 :=
  fun j => FloatOps.mulf (colSum X (tOf L) (Fin.ofNat 1024 (128 * hOf L + (j 0).val)) 1024) (FloatOps.ofBits .f32 0x3A800000#32)

/-- The eight stores of the scaled accumulators, the last first. -/
abbrev scaled (X : FVec F S16384x1024 .f32) (L : grid0.Coords) : List (View.Piece (Elt F) S128 .f32) :=
  [⟨Rect.unit ![112] S16.size inb_S128_S16_112, k0_pay2 (accV X L 7 1024)⟩, ⟨Rect.unit ![96] S16.size inb_S128_S16_96, k0_pay1 (accV X L 6 1024)⟩,
   ⟨Rect.unit ![80] S16.size inb_S128_S16_80, k0_pay41 (accV X L 5 1024)⟩, ⟨Rect.unit ![64] S16.size inb_S128_S16_64, k0_pay40 (accV X L 4 1024)⟩,
   ⟨Rect.unit ![48] S16.size inb_S128_S16_48, k0_pay39 (accV X L 3 1024)⟩, ⟨Rect.unit ![32] S16.size inb_S128_S16_32, k0_pay38 (accV X L 2 1024)⟩,
   ⟨Rect.unit ![16] S16.size inb_S128_S16_16, k0_pay37 (accV X L 1 1024)⟩, ⟨Rect.unit ![0] S16.size inb_S128_S16_0, k0_pay36 (accV X L 0 1024)⟩]

theorem scaled_piece (X : FVec F S16384x1024 .f32) (L : grid0.Coords) (v : Nat) (o : Fin 1 → Nat) (inb : ∀ a, o a + S16.size a ≤ S128.size a)
    (ho : o = ![16 * v]) (h : S16.ShapeCasts S16) (x : S16.Idx) :
    shapeCast S16 (mulf (accV X L v 1024) (broadcast S16 (Scalar.ofBits .f32 0x3A800000#32)) : FVec F S16 .f32) h x
      = tileOut X L ((Rect.unit (s := S128) o S16.size inb).emb x) := by
  subst ho
  rw [shapeCast_self]
  show FloatOps.mulf (colSum X _ (Fin.ofNat 1024 (128 * hOf L + 16 * v + (x 0).val)) 1024) _
    = FloatOps.mulf (colSum X _ (Fin.ofNat 1024 (128 * hOf L + (16 * v + 1 * (x 0).val))) 1024) _
  rw [Nat.one_mul, Nat.add_assoc]; rfl

/-- Read back, they are the tile's results. -/
theorem scaled_read (X : FVec F S16384x1024 .f32) (L : grid0.Coords) (f : sA.view.ty.Contents (Elt F)) :
    sA.view.read (Elt F) (sA.view.writes (Elt F) f (scaled X L)) = tileOut X L := by
  funext y
  refine View.read_writes_apply_of_pieces _ _ (tileOut X L) (scaled X L) ?_ y (View.cover_of_tiled (scaled X L) S16.size (by rfl) y)
  intro p hp
  simp only [List.mem_cons, List.not_mem_nil, or_false] at hp
  rcases hp with rfl | rfl | rfl | rfl | rfl | rfl | rfl | rfl <;> intro x
  · exact scaled_piece X L 7 ![112] inb_S128_S16_112 rfl shapeCasts_S16_S16 x
  · exact scaled_piece X L 6 ![96] inb_S128_S16_96 rfl shapeCasts_S16_S16 x
  · exact scaled_piece X L 5 ![80] inb_S128_S16_80 rfl shapeCasts_S16_S16 x
  · exact scaled_piece X L 4 ![64] inb_S128_S16_64 rfl shapeCasts_S16_S16 x
  · exact scaled_piece X L 3 ![48] inb_S128_S16_48 rfl shapeCasts_S16_S16 x
  · exact scaled_piece X L 2 ![32] inb_S128_S16_32 rfl shapeCasts_S16_S16 x
  · exact scaled_piece X L 1 ![16] inb_S128_S16_16 rfl shapeCasts_S16_S16 x
  · exact scaled_piece X L 0 ![0] inb_S128_S16_0 rfl shapeCasts_S16_S16 x

/-- A copy of the tile's results into its slice leaves the SparseCore's result there. -/
theorem out_eq (d : Dev nD) (L : grid0.Coords) (X : FVec F S16384x1024 .f32) (f : Buf (Elt F) ((outAt L).view.loc (thr d L))) (w : FVec F S128 .f32)
    (hw : w = tileOut X L) :
    (((outAt L).view.loc (thr d L) ↦[(outAt L).view.set]{fullShare} ((outAt L).view.writes (Elt F) f [⟨Rect.whole S128, w⟩])) : sProp 𝕄)
      ⊢ ((outAt L).view.loc (thr d L) ↦[(outAt L).view.set]{fullShare} scOut X) := by
  subst hw
  refine Entails.of_eq (pointsTo_congr fun i hi => ?_)
  obtain ⟨x, -, rfl⟩ := Finset.mem_map.mp hi
  have h0 : (L 0).val < 2 := (L 0).isLt
  have h1 : (L 1).val < 16 := (L 1).isLt
  have hx : (x 0).val < 128 := (x 0).isLt
  refine (congrFun (View.read_writes_whole (outAt L).view f (tileOut X L)) x).trans ?_
  have hsq : Shape.reshapeEquiv squeezes_S1x128_S128.numel_eq x = (ix2 0 (x 0) : S1x128.Idx) :=
    Shape.reshapeEquiv_eq_of_rowMajor _ (by
      rw [Shape.rowMajor_val_two, Shape.rowMajor_val_one]; show 0 * 128 + (x 0).val = (x 0).val; omega)
  have e : (outAt L).view.emb x = (ix2 ⟨tOf L, by show (2 * (L 1).val + (L 0).val) / 8 < 4; omega⟩
      ⟨128 * hOf L + (x 0).val, by show 128 * ((2 * (L 1).val + (L 0).val) % 8) + (x 0).val < 1024; omega⟩ : S4x1024.Idx) := by
    refine (congrArg (Rect.unit (s := S4x1024) ![tOf L, 128 * hOf L] S1x128.size (out_inb L)).emb hsq).trans ?_
    funext a
    apply Fin.ext
    match a with
    | ⟨0, _⟩ => show tOf L + 1 * 0 = tOf L; omega
    | ⟨1, _⟩ => show 128 * hOf L + 1 * (x 0).val = 128 * hOf L + (x 0).val; omega
  rw [e]
  refine congrArg (fun c => FloatOps.mulf (colSum X (tOf L) c 1024) (FloatOps.ofBits .f32 0x3A800000#32)) (Fin.ext ?_)
  show (128 * ((2 * (L 1).val + (L 0).val) % 8) + (x 0).val) % 1024 = _
  exact Nat.mod_eq_of_lt (by omega)

/-- A tile's run: out of its share of the encoded array it leaves its slice of the SparseCore's result. -/
theorem tile_run (d : Dev nD) (L : grid0.Coords) (X : FVec F S16384x1024 .f32) (q : PosShare TreeShare) (O : CellTallies nD τ sig (HIx 1))
    (W : Waits sig (HIx 1)) :
    iprop(Transfers.MayWaits (thr d L) (none : HIx 1) O ∗ allResting d L X q ∗ (∃ f, sA.view.loc (thr d L) ↦{fullShare} f)
      ∗ (∃ f, (outAt L).view.loc (thr d L) ↦[(outAt L).view.set]{fullShare} f)
      ∗ semVal (thr d L, SemLoc.dma cc0_scoped0.sem) 0 ∗ owes (thr d L) O W)
    ⊢ wp frame (wpE (defs₀ (F := F)) 𝒱₀ (thr d L) none) Set.univ
        (cc0__sc_mean L eV (Memref.isWhole_whole _) aV (Memref.isWhole_whole _) b0 (Memref.isWhole_whole _) b1 (Memref.isWhole_whole _) b2 (Memref.isWhole_whole _) b3 (Memref.isWhole_whole _) sA (Memref.isWhole_whole _) cc0_scratch5 cc0_scratch6 cc0_scratch7 cc0_scratch8 cc0_scoped0)
        fun _ => iprop(allResting d L X q ∗ (∃ f, sA.view.loc (thr d L) ↦{fullShare} f)
          ∗ ((outAt L).view.loc (thr d L) ↦[(outAt L).view.set]{fullShare} scOut X)
          ∗ semVal (thr d L, SemLoc.dma cc0_scoped0.sem) 0 ∗ owing d L O W) := by
  have k0_h1 : k0_cond1 L = 1#1 := cond1 L
  rw [cc0__sc_mean_eq_skeleton]; unfold cc0__sc_mean_skel
  iintro ⟨#Hmw, ⟨⟨⟨%f0, Hb0⟩, Hf0, He0⟩, ⟨⟨%f1, Hb1⟩, Hf1, He1⟩, ⟨⟨%f2, Hb2⟩, Hf2, He2⟩, ⟨%f3, Hb3⟩, Hf3, He3⟩, ⟨%fa, HA⟩, ⟨%fo, Ho⟩, Hs, HO⟩
  sl_exec
  sl_for (tripInv d L X q O W) $$ [Hf0 He0 Hf1 He1 Hf2 He2 Hf3 He3 HO]
  case region => exact trip d L X q O W k0_h1 _ _
  · unfold tripInv
    isplitr; · iexact Hmw
    isplitr; · ipureintro; rfl
    rw [if_pos (show (0 : Nat) < 8 by decide)]
    isplitr [HO]
    · isplitl [Hf0 He0]; · isplitl [Hf0]; · iexists _; iexact Hf0
                           · iexact He0
      isplitl [Hf1 He1]; · isplitl [Hf1]; · iexists _; iexact Hf1
                           · iexact He1
      isplitl [Hf2 He2]; · isplitl [Hf2]; · iexists _; iexact Hf2
                           · iexact He2
      isplitl [Hf3]; · iexists _; iexact Hf3
      · iexact He3
    iexists _; isplitr
    · ipureintro; exact fun p hp => .inl hp
    · iexact HO
  iintro %a HI
  ihave HI' := (Entails.of_eq (congrFun (tripInv_ge d L X q O W (k := k0_t1_loop.trips) (by decide)) a)) $$ HI
  icases HI' with ⟨-, %e, HI, %W1, %hW1, HO⟩
  obtain rfl : a = accs X L 1024 := e
  sl_exec
  sl_step
  isplitl [HI]; · iexact HI
  isplitl [HA]; · iexists _; iexact HA
  isplitl [Ho]; · iapply (out_eq d L X fo _ (scaled_read X L fa)); iexact Ho
  isplitl [Hs]; · iexact Hs
  iexists (insert (SemLoc.dma cc0_scoped0.sem, (default : HIx 1)) W1); isplitr
  · ipureintro; exact owing_insert _ hW1
  · iexact HO

end Cert.Proof

end
-- ==== Proof.Tasks.lean ====
/-
  The SparseCore call: what its handshakes carry, each tile's obligation, and how a core's share of the call is dealt to its tiles.
-/
module

public import proofs.«01_k».proof.Proof.Tile

@[expose] public section

noncomputable section

namespace Cert.Proof
open Cert.KernelIdeal Cert.KernelIdeal.Gen
open Idealize.ShloMosaic
open Idealize.ShloMosaic.ValueIdx
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
variable {F : FTy → Type} [FloatOps F]

local notation "𝕄" => MT nD τ sig (HIx 1) (Elt F) ℕ UU ℕ

/-! ## A tile's own counters and buffers -/

/-- A tile's counter of a semaphore. -/
abbrev tcell (d : Dev nD) (L : grid0.Coords) (s : DmaSem sig) : GSem nD τ sig := (thr d L, SemLoc.dma s)

/-- Counters of different semaphores are different. -/
theorem tcell_ne (d : Dev nD) (L : grid0.Coords) {s s' : DmaSem sig} (h : s ≠ s') : tcell d L s ≠ tcell d L s' :=
  fun e => h (SemLoc.dma.inj (Prod.mk.inj e).2)

section Tile
variable (d : Dev nD) (L : grid0.Coords)

/-- The five counters the kernel waits on are among the tile's own: they, and the rest. -/
theorem ownSems0_V :
    (ownSems0 (thr d L) : sProp 𝕄)
      = iprop(semVal (thr d L, SemLoc.dma cc0_scratch5.sem) 0 ∗ semVal (thr d L, SemLoc.dma cc0_scratch6.sem) 0 ∗ semVal (thr d L, SemLoc.dma cc0_scratch7.sem) 0 ∗ semVal (thr d L, SemLoc.dma cc0_scratch8.sem) 0 ∗ semVal (thr d L, SemLoc.dma cc0_scoped0.sem) 0
          ∗ bigSep ((((((ownCells (thr d L)).erase (tcell d L cc0_scratch5.sem)).erase (tcell d L cc0_scratch6.sem)).erase (tcell d L cc0_scratch7.sem)).erase (tcell d L cc0_scratch8.sem)).erase (tcell d L cc0_scoped0.sem)) fun g => semVal g 0) := by
  unfold SparseCore.Cfg.ownSems0
  rw [SparseCore.bigSep_erase' ((mem_ownCells (g := tcell d L cc0_scratch5.sem)).mpr ⟨rfl, by show (SemLoc.dma cc0_scratch5.sem : SemLoc sig).isScoped .scVector = true; decide⟩),
    SparseCore.bigSep_erase' (Finset.mem_erase.mpr ⟨tcell_ne d L (by decide), (mem_ownCells (g := tcell d L cc0_scratch6.sem)).mpr ⟨rfl, by show (SemLoc.dma cc0_scratch6.sem : SemLoc sig).isScoped .scVector = true; decide⟩⟩),
    SparseCore.bigSep_erase' (Finset.mem_erase.mpr ⟨tcell_ne d L (by decide), Finset.mem_erase.mpr ⟨tcell_ne d L (by decide), (mem_ownCells (g := tcell d L cc0_scratch7.sem)).mpr ⟨rfl, by show (SemLoc.dma cc0_scratch7.sem : SemLoc sig).isScoped .scVector = true; decide⟩⟩⟩),
    SparseCore.bigSep_erase' (Finset.mem_erase.mpr ⟨tcell_ne d L (by decide), Finset.mem_erase.mpr ⟨tcell_ne d L (by decide), Finset.mem_erase.mpr ⟨tcell_ne d L (by decide), (mem_ownCells (g := tcell d L cc0_scratch8.sem)).mpr ⟨rfl, by show (SemLoc.dma cc0_scratch8.sem : SemLoc sig).isScoped .scVector = true; decide⟩⟩⟩⟩),
    SparseCore.bigSep_erase' (Finset.mem_erase.mpr ⟨tcell_ne d L (by decide), Finset.mem_erase.mpr ⟨tcell_ne d L (by decide), Finset.mem_erase.mpr ⟨tcell_ne d L (by decide), Finset.mem_erase.mpr ⟨tcell_ne d L (by decide), (mem_ownCells (g := tcell d L cc0_scoped0.sem)).mpr ⟨rfl, by show (SemLoc.dma cc0_scoped0.sem : SemLoc sig).isScoped .scVector = true; decide⟩⟩⟩⟩⟩)]

/-- The four chunk buffers and the result buffer are among the tile's own: they, at some contents, and the rest. -/
theorem ownBufs_V :
    (ownBufs (thr d L) : sProp 𝕄)
      = iprop((∃ f, (thr d L).loc cc0_scratch0 ↦{fullShare} f)
          ∗ (∃ f, (thr d L).loc cc0_scratch1 ↦{fullShare} f)
          ∗ (∃ f, (thr d L).loc cc0_scratch2 ↦{fullShare} f)
          ∗ (∃ f, (thr d L).loc cc0_scratch3 ↦{fullShare} f)
          ∗ (∃ f, (thr d L).loc cc0_scratch4 ↦{fullShare} f)
          ∗ bigSep ((((((ownRefs (τ := τ) (.scVector (cV L) (jV L))).erase ((Proc.scVector (cV L) (jV L)).devRef cc0_scratch0)).erase ((Proc.scVector (cV L) (jV L)).devRef cc0_scratch1)).erase ((Proc.scVector (cV L) (jV L)).devRef cc0_scratch2)).erase ((Proc.scVector (cV L) (jV L)).devRef cc0_scratch3)).erase ((Proc.scVector (cV L) (jV L)).devRef cc0_scratch4))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := ((Proc.scVector (cV L) (jV L)).devRef cc0_scratch0)) rfl)).trans ?_
  rw [SparseCore.bigSep_erase' (Finset.mem_erase.mpr ⟨fun e => absurd (Proc.devRef_injective _ e) (show (cc0_scratch1 : Ref sig .scVector) ≠ cc0_scratch0 by decide), SparseCore.Cfg.mem_ownRefs_of_owner (p := Proc.scVector (cV L) (jV L)) (b := ((Proc.scVector (cV L) (jV L)).devRef cc0_scratch1)) rfl⟩),
    SparseCore.bigSep_erase' (Finset.mem_erase.mpr ⟨fun e => absurd (Proc.devRef_injective _ e) (show (cc0_scratch2 : Ref sig .scVector) ≠ cc0_scratch1 by decide), Finset.mem_erase.mpr ⟨fun e => absurd (Proc.devRef_injective _ e) (show (cc0_scratch2 : Ref sig .scVector) ≠ cc0_scratch0 by decide), SparseCore.Cfg.mem_ownRefs_of_owner (p := Proc.scVector (cV L) (jV L)) (b := ((Proc.scVector (cV L) (jV L)).devRef cc0_scratch2)) rfl⟩⟩),
    SparseCore.bigSep_erase' (Finset.mem_erase.mpr ⟨fun e => absurd (Proc.devRef_injective _ e) (show (cc0_scratch3 : Ref sig .scVector) ≠ cc0_scratch2 by decide), Finset.mem_erase.mpr ⟨fun e => absurd (Proc.devRef_injective _ e) (show (cc0_scratch3 : Ref sig .scVector) ≠ cc0_scratch1 by decide), Finset.mem_erase.mpr ⟨fun e => absurd (Proc.devRef_injective _ e) (show (cc0_scratch3 : Ref sig .scVector) ≠ cc0_scratch0 by decide), SparseCore.Cfg.mem_ownRefs_of_owner (p := Proc.scVector (cV L) (jV L)) (b := ((Proc.scVector (cV L) (jV L)).devRef cc0_scratch3)) rfl⟩⟩⟩),
    SparseCore.bigSep_erase' (Finset.mem_erase.mpr ⟨fun e => absurd (Proc.devRef_injective _ e) (show (cc0_scratch4 : Ref sig .scVector) ≠ cc0_scratch3 by decide), Finset.mem_erase.mpr ⟨fun e => absurd (Proc.devRef_injective _ e) (show (cc0_scratch4 : Ref sig .scVector) ≠ cc0_scratch2 by decide), Finset.mem_erase.mpr ⟨fun e => absurd (Proc.devRef_injective _ e) (show (cc0_scratch4 : Ref sig .scVector) ≠ cc0_scratch1 by decide), Finset.mem_erase.mpr ⟨fun e => absurd (Proc.devRef_injective _ e) (show (cc0_scratch4 : Ref sig .scVector) ≠ cc0_scratch0 by decide), SparseCore.Cfg.mem_ownRefs_of_owner (p := Proc.scVector (cV L) (jV L)) (b := ((Proc.scVector (cV L) (jV L)).devRef cc0_scratch4)) rfl⟩⟩⟩⟩)]

/-- A share of the encodings as what stays with the tile and one read token for each of its four chunk buffers. -/
theorem eToks (q : PosShare TreeShare) (f : Buf (Elt F) (eLoc d)) :
    (eLoc d ↦{q} f : sProp 𝕄) ⊣⊢ iprop((eLoc d ↦{Transfers.shareDrop q 4} f) ∗ (eLoc d ↦{Transfers.shareTokN q 0} f) ∗ (eLoc d ↦{Transfers.shareTokN q 1} f)
      ∗ (eLoc d ↦{Transfers.shareTokN q 2} f) ∗ (eLoc d ↦{Transfers.shareTokN q 3} f)) := by
  have h : (eLoc d ↦{q} f : sProp 𝕄) ⊣⊢ iprop((eLoc d ↦{Transfers.shareDrop q 4} f) ∗ bigSep (Finset.range 4) fun i => eLoc d ↦{Transfers.shareTokN q i} f) :=
    Transfers.pointsTo_toks_range (ℓ := eLoc d) (S := Finset.univ) (f := f) q 4
  rw [show Finset.range 4 = {0, 1, 2, 3} by decide, SparseCore.bigSep_insert' (by decide), SparseCore.bigSep_insert' (by decide),
    SparseCore.bigSep_insert' (by decide), bigSep_singleton] at h
  exact h

/-- A tile's part of the SparseCore's result. -/
abbrev outSet (L : grid0.Coords) : Finset S4x1024.Idx := (outAt L).view.set

/-- The tile's run, from what the launch deals it to what it hands back. -/
theorem tile_body (hF : (K (F := F)).Facts) (X : Buf (Elt F) (eLoc d)) (q : PosShare TreeShare)
    (O : CellTallies nD τ sig (HIx 1)) (W : Waits sig (HIx 1)) (hO : ∀ g, O g none = 0) :
    (iprop(levAts (K (F := F)).L (K (F := F)).lev ∗ emp
        ∗ ((eLoc d ↦{q} X) ∗ ∃ f, aLoc d ↦[outSet L]{fullShare} f)
        ∗ scopedBufs (thr d L) ∗ scopedSems0 (thr d L) ∗ owes (thr d L) O W) : sProp 𝕄)
      ⊢ wp frame (wpE (defs₀ (F := F)) 𝒱₀ (thr d L) none) Set.univ
          (cc0__sc_mean L eV (Memref.isWhole_whole _) aV (Memref.isWhole_whole _) b0 (Memref.isWhole_whole _) b1 (Memref.isWhole_whole _) b2 (Memref.isWhole_whole _) b3 (Memref.isWhole_whole _) sA (Memref.isWhole_whole _) cc0_scratch5 cc0_scratch6 cc0_scratch7 cc0_scratch8 cc0_scoped0)
          fun _ => iprop(((eLoc d ↦{q} X) ∗ aLoc d ↦[outSet L]{fullShare} scOut X)
            ∗ scopedBufs (thr d L) ∗ scopedSems0 (thr d L)
            ∗ ∃ W', ⌜∀ p ∈ W', p ∈ W ∨ p.2 = none⌝ ∗ owes (thr d L) O W') := by
  rw [(K (F := F)).scopedBufs_V hF d (cV L) (jV L), SparseCore.Cfg.scopedSems0_V (Val := Elt F) d (cV L) (jV L), ownSems0_V, ownBufs_V]
  iintro ⟨#Hlv, -, ⟨He, Ho⟩, ⟨H0, H1, H2, H3, HA, Hbufs⟩, ⟨C0, C1, C2, C3, CS, Hsems⟩, HO⟩
  ihave Hmw := (show levAts (K (F := F)).L (K (F := F)).lev ⊢ Transfers.MayWaits (thr d L) (none : HIx 1) O from
    (K (F := F)).mayWaits_none (thr := thr d L) hO) $$ Hlv
  ihave Ht := (eToks d q X).1 $$ He
  icases Ht with ⟨Hd, T0, T1, T2, T3⟩
  ihave Hwp := (tile_run d L X q O W) $$ [Hmw T0 T1 T2 T3 Ho H0 H1 H2 H3 HA C0 C1 C2 C3 CS HO]
  · isplitl [Hmw]; · iexact Hmw
    isplitl [T0 T1 T2 T3 H0 H1 H2 H3 C0 C1 C2 C3]
    · unfold allResting resting
      isplitl [T0 H0 C0]
      · isplitl [H0]; · iexact H0
        isplitl [C0]; · iexact C0
        iexact T0
      isplitl [T1 H1 C1]
      · isplitl [H1]; · iexact H1
        isplitl [C1]; · iexact C1
        iexact T1
      isplitl [T2 H2 C2]
      · isplitl [H2]; · iexact H2
        isplitl [C2]; · iexact C2
        iexact T2
      isplitl [H3]; · iexact H3
      isplitl [C3]; · iexact C3
      iexact T3
    isplitl [HA]; · iexact HA
    isplitl [Ho]; · iexact Ho
    isplitl [CS]; · iexact CS
    iexact HO
  iapply (wp_wand_r Idealize.ShloMosaic.frame (wpE (defs₀ (F := F)) 𝒱₀ (thr d L) none) Set.univ) $$ [Hwp Hd Hbufs Hsems]
  isplitl [Hwp]; · iexact Hwp
  iintro %_ ⟨HR, HA, Ho, CS, HW⟩
  unfold allResting resting owing
  icases HR with ⟨⟨H0, C0, T0⟩, ⟨H1, C1, T1⟩, ⟨H2, C2, T2⟩, H3, C3, T3⟩
  isplitl [Hd T0 T1 T2 T3 Ho]
  · isplitl [Hd T0 T1 T2 T3]
    · iapply (eToks d q X).2
      isplitl [Hd]; · iexact Hd
      isplitl [T0]; · iexact T0
      isplitl [T1]; · iexact T1
      isplitl [T2]; · iexact T2
      iexact T3
    iexact Ho
  isplitl [H0 H1 H2 H3 HA Hbufs]
  · isplitl [H0]; · iexact H0
    isplitl [H1]; · iexact H1
    isplitl [H2]; · iexact H2
    isplitl [H3]; · iexact H3
    isplitl [HA]; · iexact HA
    iexact Hbufs
  isplitl [C0 C1 C2 C3 CS Hsems]
  · isplitl [C0]; · iexact C0
    isplitl [C1]; · iexact C1
    isplitl [C2]; · iexact C2
    isplitl [C3]; · iexact C3
    isplitl [CS]; · iexact CS
    iexact Hsems
  iexact HW

end Tile

/-! ## What the handshakes carry -/

/-- The grid coordinates of tile `s` of SparseCore `c`. -/
def coordsV (c : Fin (grid0.bound 0)) (s : Fin (grid0.bound 1)) : grid0.Coords :=
  fun | 0 => c | 1 => s | ⟨_ + 2, h⟩ => absurd h (Nat.not_lt.2 (Nat.le_add_left _ _))

/-- SparseCore `c`'s share of the encodings, and tile `s`'s share of that. -/
abbrev coreShare (c : Fin 2) : PosShare TreeShare := Transfers.dealOf fullShare Finset.univ c
abbrev tileShare (c : Fin 2) (s : Fin 16) : PosShare TreeShare := Transfers.dealOf (coreShare c) Finset.univ s

section Pay
variable (m : (ℓ : Loc nD τ sig) → Buf (Elt F) ℓ)

/-- What a tile gets: its share of the encodings and its part of the result, at any contents. -/
abbrev goPts (d : Dev nD) (c : Fin 2) (s : Fin 16) : sProp 𝕄 :=
  iprop((eLoc d ↦{tileShare c s} m (eLoc d)) ∗ ∃ f, aLoc d ↦[outSet (coordsV c s)]{fullShare} f)
/-- What a tile hands back: its share of the encodings and its part of the result, holding the means. -/
abbrev tdPts (d : Dev nD) (c : Fin 2) (s : Fin 16) : sProp 𝕄 :=
  iprop((eLoc d ↦{tileShare c s} m (eLoc d)) ∗ aLoc d ↦[outSet (coordsV c s)]{fullShare} scOut (m (eLoc d)))
/-- What a SparseCore gets: its share of the encodings and its tiles' parts of the result. -/
abbrev stPts (d : Dev nD) (c : Fin 2) : sProp 𝕄 :=
  iprop((eLoc d ↦{coreShare c} m (eLoc d)) ∗ bigSep Finset.univ fun s : Fin 16 => iprop(∃ f, aLoc d ↦[outSet (coordsV c s)]{fullShare} f))
/-- What a SparseCore hands back. -/
abbrev dnPts (d : Dev nD) (c : Fin 2) : sProp 𝕄 :=
  iprop((eLoc d ↦{coreShare c} m (eLoc d)) ∗ bigSep Finset.univ fun s : Fin 16 => aLoc d ↦[outSet (coordsV c s)]{fullShare} scOut (m (eLoc d)))

theorem nCore_zero : (K (F := F)).nCore 0 = 2 := rfl
theorem nSub_zero : (K (F := F)).nSub 0 = 16 := rfl

/-- The one call's payloads. -/
def P : (K (F := F)).Pay (nD := nD) (Val := Elt F) (Name := ℕ) (U := UU) where
  st := fun q d c => match q with | 0 => stPts m d (Fin.cast nCore_zero c)
  dn := fun q d c => match q with | 0 => dnPts m d (Fin.cast nCore_zero c)
  go := fun q d c i => match q with | 0 => goPts m d (Fin.cast nCore_zero c) (Fin.cast nSub_zero i)
  td := fun q d c i => match q with | 0 => tdPts m d (Fin.cast nCore_zero c) (Fin.cast nSub_zero i)
  x := fun _ _ => iprop(emp)

instance P_storable : (P (F := F) m).IsStorable where
  st q d c := match q with
    | 0 => (inferInstance : BI.Storable (upEmb : UEmb _ 𝕄) (stPts m d (Fin.cast nCore_zero c)))
  dn q d c := match q with
    | 0 => (inferInstance : BI.Storable (upEmb : UEmb _ 𝕄) (dnPts m d (Fin.cast nCore_zero c)))
  go q d c i := match q with
    | 0 => (inferInstance : BI.Storable (upEmb : UEmb _ 𝕄) (goPts m d (Fin.cast nCore_zero c) (Fin.cast nSub_zero i)))
  td q d c i := match q with
    | 0 => (inferInstance : BI.Storable (upEmb : UEmb _ 𝕄) (tdPts m d (Fin.cast nCore_zero c) (Fin.cast nSub_zero i)))

/-! ## The tiles' obligation -/

/-- The call's body on a tile. -/
theorem defs₀_vector (c : Fin τ.nSC) (s : Fin τ.nSub) :
    defs₀ (F := F) (.scVector c s) 0 ()
      = SparseCore.onTile hcore0 hsub0 (fun c s => cc0__sc_mean (coordsV c s) eV (Memref.isWhole_whole _) aV (Memref.isWhole_whole _) b0 (Memref.isWhole_whole _) b1 (Memref.isWhole_whole _) b2 (Memref.isWhole_whole _) b3 (Memref.isWhole_whole _) sA (Memref.isWhole_whole _) cc0_scratch5 cc0_scratch6 cc0_scratch7 cc0_scratch8 cc0_scoped0) ⟨⟩ c s := rfl

/-- Weakening of the waits a tile may leave. -/
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- Every tile's obligation. -/
theorem tileObl : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body d (coordsV ⟨_, hc.1⟩ ⟨_, hc.2⟩) facts (m (eLoc d)) (tileShare ⟨_, hc.1⟩ ⟨_, hc.2⟩) O W hO).trans (wp_mono frame _ _ fun _ => obl_post)

/-! ## A core's share dealt to its tiles -/

/-- A family over the call's tiles, over `Fin 16`. -/
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)
/-- A family over the call's cores, over `Fin 2`. -/
theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

/-- A core's share of the encodings is its tiles' shares. -/
theorem core_tiles (d : Dev nD) (c : Fin 2) (f : Buf (Elt F) (eLoc d)) :
    (eLoc d ↦{coreShare c} f : sProp 𝕄) = bigSep Finset.univ fun s : Fin 16 => eLoc d ↦{tileShare c s} f :=
  Transfers.pointsTo_deal (ℓ := eLoc d) (S := Finset.univ) (Finset.univ : Finset (Fin 16)) Finset.univ_nonempty (coreShare c)
/-- The encodings are the two cores' shares. -/
theorem all_cores (d : Dev nD) (f : Buf (Elt F) (eLoc d)) :
    (eLoc d ↦{fullShare} f : sProp 𝕄) = bigSep Finset.univ fun c : Fin 2 => eLoc d ↦{coreShare c} f :=
  Transfers.pointsTo_deal (ℓ := eLoc d) (S := Finset.univ) (Finset.univ : Finset (Fin 2)) Finset.univ_nonempty fullShare

/-- A core's payload splits into its tiles', and what they hand back joins to what the core hands back. -/
theorem vecSplit : (K (F := F)).VecSplit' (P m) 0 := by
  intro d c
  show stPts m d (Fin.cast nCore_zero c) ⊢ |={Set.univ}=> iprop(
      (bigSep Finset.univ fun i : Fin ((K (F := F)).nSub 0) => goPts m d (Fin.cast nCore_zero c) (Fin.cast nSub_zero i))
      ∗ ((bigSep Finset.univ fun i : Fin ((K (F := F)).nSub 0) => tdPts m d (Fin.cast nCore_zero c) (Fin.cast nSub_zero i))
          -∗ dnPts m d (Fin.cast nCore_zero c)))
  generalize (Fin.cast nCore_zero c) = c
  rw [bigSep_tasks (F := F) (fun i => goPts m d c i), bigSep_tasks (F := F) (fun i => tdPts m d c i)]
  unfold goPts tdPts stPts dnPts
  rw [bigSep_sep', bigSep_sep', core_tiles]
  iintro H; imodintro
  isplitl [H]; · iexact H
  iintro H'; iexact H'

/-! ## The tiles' parts are the result -/

/-- Where a tile's part lies: one table's row, 128 columns of it. -/
theorem mem_outSet (L : grid0.Coords) (i : S4x1024.Idx) :
    i ∈ outSet L ↔ (i 0).val = tOf L ∧ (i 1).val / 128 = hOf L := by
  have e : outSet L = (Rect.unit (s := S4x1024) ![tOf L, 128 * hOf L] S1x128.size (out_inb L)).set := by
    show (((aV.view.slice _).reshape _ _).set) = _
    rw [View.set_reshape, View.set_slice]; exact Finset.map_refl
  rw [e, Rect.mem_set_unit, Fin.forall_fin_two]
  show (tOf L ≤ (i 0).val ∧ (i 0).val < tOf L + 1) ∧ (128 * hOf L ≤ (i 1).val ∧ (i 1).val < 128 * hOf L + 128) ↔ _
  omega

/-- The tile at a core and a position in it. -/
abbrev outOf (p : Fin 2 × Fin 16) : Finset S4x1024.Idx := outSet (coordsV p.1 p.2)

theorem tOf_coords (c : Fin 2) (s : Fin 16) : tOf (coordsV c s) = (2 * s.val + c.val) / 8 := rfl
theorem hOf_coords (c : Fin 2) (s : Fin 16) : hOf (coordsV c s) = (2 * s.val + c.val) % 8 := rfl

theorem outs_disjoint : ∀ p ∈ (Finset.univ : Finset (Fin 2 × Fin 16)), ∀ p' ∈ (Finset.univ : Finset (Fin 2 × Fin 16)), p ≠ p' → Disjoint (outOf p) (outOf p') := by
  intro p _ p' _ h
  refine Finset.disjoint_left.mpr fun i h1 h2 => h ?_
  obtain ⟨c, s⟩ := p; obtain ⟨c', s'⟩ := p'
  rw [mem_outSet, tOf_coords, hOf_coords] at h1 h2
  have := c.isLt; have := c'.isLt
  change (i 0).val = (2 * s.val + c.val) / 8 ∧ (i 1).val / 128 = (2 * s.val + c.val) % 8 at h1
  change (i 0).val = (2 * s'.val + c'.val) / 8 ∧ (i 1).val / 128 = (2 * s'.val + c'.val) % 8 at h2
  exact Prod.ext (Fin.ext (by show c.val = c'.val; omega)) (Fin.ext (by show s.val = s'.val; omega))

theorem outs_cover : (Finset.univ : Finset (Fin 2 × Fin 16)).biUnion outOf = Finset.univ := by
  refine Finset.eq_univ_iff_forall.mpr fun i => ?_
  have h0 : (i 0).val < 4 := (i 0).isLt
  have h1 : (i 1).val < 1024 := (i 1).isLt
  refine Finset.mem_biUnion.mpr ⟨(⟨(8 * (i 0).val + (i 1).val / 128) % 2, by omega⟩, ⟨(8 * (i 0).val + (i 1).val / 128) / 2, by omega⟩), Finset.mem_univ _, ?_⟩
  rw [mem_outSet, tOf_coords, hOf_coords]
  show (i 0).val = (2 * ((8 * (i 0).val + (i 1).val / 128) / 2) + (8 * (i 0).val + (i 1).val / 128) % 2) / 8 ∧ (i 1).val / 128 = (2 * ((8 * (i 0).val + (i 1).val / 128) / 2) + (8 * (i 0).val + (i 1).val / 128) % 2) % 8
  omega

/-- The result whole is the tiles' parts of it. -/
theorem aPts_parts (d : Dev nD) (f : Buf (Elt F) (aLoc d)) :
    (aLoc d ↦{fullShare} f : sProp 𝕄) = bigSep Finset.univ fun c : Fin 2 => bigSep Finset.univ fun s : Fin 16 => aLoc d ↦[outSet (coordsV c s)]{fullShare} f := by
  have h : (aLoc d ↦[Finset.univ.biUnion outOf]{fullShare} f : sProp 𝕄) = bigSep Finset.univ fun p => aLoc d ↦[outOf p]{fullShare} f :=
    pointsTo_biUnion Finset.univ (ℓ := aLoc d) outOf outs_disjoint
  rw [outs_cover] at h
  refine Eq.trans h ?_
  rw [← Finset.univ_product_univ, Idealize.ShloMosaic.SparseCore.bigSep_product]

/-- What the call takes: the encodings and the result whole, at any contents. -/
theorem st_intro (d : Dev nD) (f : Buf (Elt F) (aLoc d)) :
    iprop((eLoc d ↦{fullShare} m (eLoc d)) ∗ (aLoc d ↦{fullShare} f)) ⊢ (bigSep Finset.univ fun c : Fin ((K (F := F)).nCore 0) => (P m).st 0 d c : sProp 𝕄) := by
  show _ ⊢ bigSep Finset.univ fun c : Fin ((K (F := F)).nCore 0) => stPts m d (Fin.cast nCore_zero c)
  rw [bigSep_cores (F := F) (fun c => stPts m d c)]
  unfold stPts
  rw [bigSep_sep', all_cores, aPts_parts]
  exact sep_mono_right (bigSep_mono fun c _ => bigSep_mono fun s _ => exists_intro (Φ := fun f => (aLoc d ↦[outSet (coordsV c s)]{fullShare} f : sProp 𝕄)) f)

/-- What the call brings back: the encodings, and the result holding the means. -/
theorem dn_elim (d : Dev nD) :
    (bigSep Finset.univ fun c : Fin ((K (F := F)).nCore 0) => (P m).dn 0 d c : sProp 𝕄)
      ⊢ iprop((eLoc d ↦{fullShare} m (eLoc d)) ∗ (aLoc d ↦{fullShare} scOut (m (eLoc d)))) := by
  show (bigSep Finset.univ fun c : Fin ((K (F := F)).nCore 0) => dnPts m d (Fin.cast nCore_zero c)) ⊢ _
  rw [bigSep_cores (F := F) (fun c => dnPts m d c)]
  unfold dnPts
  rw [bigSep_sep', all_cores, aPts_parts]

end Pay

end Cert.Proof

end
-- ==== Proof.Region.lean ====
/-
  The TensorCore's half of the kernel: six grid points, each adding up two tables of 1024 rows and writing the two means
  as two rows of the twelve-row result block, which stays in the core's memory and is written back once at the end.
-/
module

public import proofs.«01_k».proof.Proof.Chunks
public import Idealize.ShloMosaic.Lib.WritesUnit
public import Idealize.ShloMosaic.Lib.Pipeline.ArrRel
public import Idealize.ShloMosaic.Lib.Pipeline.Regions

@[expose] public section

noncomputable section

namespace Cert.Proof
open Cert.KernelIdeal Cert.KernelIdeal.Gen
open Idealize.ShloMosaic
open Idealize.ShloMosaic.ValueIdx
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (RDat Cfg Window cellOf)
variable {F : FTy → Type} [FloatOps F]

local notation "𝕄" => MT nD τ sig (HIx 1) (Elt F) ℕ UU ℕ

/-! ## The values -/

/-- Table `k` of the encoded array: its 1024 rows. -/
def table (X : FVec F S16384x1024 .f32) (k : Nat) : FVec F S1024x1024 .f32 :=
  fun i => X (ix2 (Fin.ofNat 16384 (1024 * k + (i 0).val)) (i 1))

/-- The twelve rows the TensorCore computes: row `r` the mean of table `4 + r`, as the kernel adds it up. -/
def tcOut (X : FVec F S16384x1024 .f32) : FVec F S12x1024 .f32 :=
  fun i => k1_pay1 (table X (4 + (i 0).val)) (ix2 0 (i 1))

/-! ## The body at a point -/

theorem k1_off1_eq : ∀ i : grid1.Coords, k1_off1 i = ![2 * (i 0).val, 0] := by decide +kernel
theorem k1_off2_eq : ∀ i : grid1.Coords, k1_off2 i = ![2 * (i 0).val + 1, 0] := by decide +kernel

/-- The lower and the upper table of a staged block of two. -/
def half (Y : FVec F S2048x1024 .f32) (b : Nat) : FVec F S1024x1024 .f32 :=
  fun i => Y (ix2 (Fin.ofNat 2048 (1024 * b + (i 0).val)) (i 1))

/-- What a point's body leaves in the result block, given the staged tables and the block it found: the two means in
    rows `2t` and `2t + 1`, the other rows as they were. -/
def bodyOut (t : Nat) (Y : FVec F S2048x1024 .f32) (Z : FVec F S12x1024 .f32) : FVec F S12x1024 .f32 :=
  fun i => if (i 0).val = 2 * t + 1 then k1_pay1 (half Y 1) (ix2 0 (i 1))
    else if (i 0).val = 2 * t then k1_pay1 (half Y 0) (ix2 0 (i 1)) else Z i

/-- The body at a point, on the two staging buffers it is handed. -/
theorem body_run (c : Dev nD) (i : grid1.Coords) (M0 : Memref sig .tc .vmem S2048x1024 .f32) (h0 : M0.IsWhole)
    (M1 : Memref sig .tc .vmem S12x1024 .f32) (h1 : M1.IsWhole) (Y0 : FVec F S2048x1024 .f32) (Y1 : FVec F S12x1024 .f32)
    (E : Set ℕ) (Q : PUnit → sProp 𝕄) :
    (iprop(owns (c.tc : Thread nD τ) M0 fullShare Y0 ∗ owns (c.tc : Thread nD τ) M1 fullShare Y1
        ∗ (iprop(owns (c.tc : Thread nD τ) M0 fullShare Y0 ∗ owns (c.tc : Thread nD τ) M1 fullShare (bodyOut (i 0).val Y0 Y1)) -∗ Q ⟨⟩)) : sProp 𝕄)
      ⊢ wp frame (wpE (defs₀ (F := F)) 𝒱₀ (c.tc : Thread nD τ) none) E (cc1__tc_body i M0 h0 M1 h1) Q := by
  have s0 : M0.view.set = Finset.univ := h0.set_eq_univ
  have s1 : M1.view.set = Finset.univ := h1.set_eq_univ
  unfold owns
  rw [s0, s1, cc1__tc_body_eq_skeleton]
  unfold cc1__tc_body_skel
  iintro ⟨⟨%f0, %e0, H0⟩, ⟨%f1, %e1, H1⟩, Hk⟩
  sl_exec
  sl_step
  iapply Hk
  isplitl [H0]
  · iexists f0; isplitr; · ipureintro; exact e0
    iexact H0
  · iexists _; isplitr; swap; (· iexact H1)
    ipureintro
    have hr : ∀ (b : Nat) (hb : b < 2) (inb), (View.readAt (Elt F) M0.view (Rect.unit (s := S2048x1024) ![1024 * b, 0] S1024x1024.size inb).toLoadRect f0 : FVec F S1024x1024 .f32) = half Y0 b := by
      intro b hb inb
      funext x
      rw [← e0]
      unfold half
      refine congrArg (View.read (Elt F) M0.view f0) (funext fun a => Fin.ext ?_)
      have hx : (x 0).val < 1024 := (x 0).isLt
      fin_cases a
      · show 1024 * b + 1 * (x 0).val = (1024 * b + (x 0).val) % 2048
        omega
      · show 0 + 1 * (x 1).val = (x 1).val
        omega
    rw [show k1_pay2 (F := F) = k1_pay1 from rfl, hr 1 (by decide), hr 0 (by decide)]
    funext y
    unfold bodyOut
    by_cases hy1 : (y 0).val = 2 * (i 0).val + 1
    · rw [if_pos hy1]
      exact View.read_writes_cons_rows_of_mem M1.view f1 _ _ _ y (ix2 0 (y 1)) (k1_off2_eq i) (hy1.trans (Nat.add_zero _).symm) rfl
    rw [if_neg hy1, View.read_writes_cons_rows_of_not_mem M1.view f1 _ _ _ y (k1_off2_eq i) (W := 1) rfl (by omega)]
    by_cases hy0 : (y 0).val = 2 * (i 0).val
    · rw [if_pos hy0]
      exact View.read_writes_cons_rows_of_mem M1.view f1 _ _ _ y (ix2 0 (y 1)) (k1_off1_eq i) (hy0.trans (Nat.add_zero _).symm) rfl
    rw [if_neg hy0, View.read_writes_cons_rows_of_not_mem M1.view f1 _ _ _ y (k1_off1_eq i) (W := 1) rfl (by omega)]
    exact congrFun e1 y

/-! ## The proof data -/

/-- The relation of a point's body: if the result block held the right rows below `2t`, it holds the right rows below
    `2t + 2` afterwards. -/
def rowsStep (X : FVec F S16384x1024 .f32) (t : Nat) (Y Z : FVec F S12x1024 .f32) : Prop :=
  (∀ i, (i 0).val < 2 * t → Y i = tcOut X i) → ∀ i, (i 0).val < 2 * (t + 1) → Z i = tcOut X i

/-- One core's proof data: the encoded array at `X`, the result at anything (`f`), the recorded waits at levels at most `B`. -/
def rdat (B : Nat) (c : Dev nD) (X : Buf (Elt F) (eLoc c)) (f : Buf (Elt F) (bLoc c)) : RDat τ (Elt F) (HIx 1) ℕ UU ℕ cfg1 c where
  A w := match w with | ⟨0, _⟩ => X | ⟨1, _⟩ => f
  after w t Y Z := match w with | ⟨0, _⟩ => True | ⟨1, _⟩ => rowsStep X t.val Y Z
  Φ _ := iprop(emp)
  q _ := fullShare
  owed _ := 0
  recorded _ := {p | (K (F := F)).lev ((T c : Thread nD τ), p.1) p.2 ≤ B}

theorem fetch1_1 : ∀ t : Fin cfg1.N, (cfg1.win 1).fetch t = false := by decide +kernel

theorem flush1_lt (t : Fin cfg1.N) (h : t.val + 1 < 6) : (cfg1.win 1).flush t = false := by
  have := (flush1_1 t).not.mpr (by omega)
  simpa using this

theorem N1 : cfg1.N = 6 := N_1

/-- Before point `t` the rows below `2t` of the result block are right. -/
theorem finds_rows (B : Nat) (c : Dev nD) (X : Buf (Elt F) (eLoc c)) (f : Buf (Elt F) (bLoc c)) (n : Nat) :
    ∀ (hn : n < cfg1.N) (Y : FVec F S12x1024 .f32), (rdat B c X f).Finds 1 ⟨n, hn⟩ Y → ∀ i, (i 0).val < 2 * n → Y i = tcOut X i := by
  induction n with
  | zero => intro _ Y _ i hi; omega
  | succ n ih =>
    intro hn Y hY
    have hN := N1
    rw [RDat.finds_of_pos _ (fetch1_1 _) (Nat.succ_ne_zero n)] at hY
    have hfl : (cfg1.win 1).flush ⟨n, Nat.lt_of_succ_lt hn⟩ = false := flush1_lt _ (show n + 1 < 6 from lt_of_lt_of_eq hn hN)
    obtain ⟨Y', hY', hs⟩ := hY.resolve_left (by rw [show (⟨(⟨n + 1, hn⟩ : Fin cfg1.N).val - 1, _⟩ : Fin cfg1.N) = ⟨n, Nat.lt_of_succ_lt hn⟩ from rfl, hfl]; exact Bool.false_ne_true)
    exact hs (ih _ Y' hY')

/-- After the last point the whole block is right. -/
theorem leaves_all (B : Nat) (c : Dev nD) (X : Buf (Elt F) (eLoc c)) (f : Buf (Elt F) (bLoc c)) (Z : FVec F S12x1024 .f32)
    (h : (rdat B c X f).Leaves 1 t1_5 Z) : Z = tcOut X := by
  obtain ⟨Y, hY, hs⟩ := h
  exact funext fun i => hs (finds_rows B c X f 5 t1_5.isLt Y hY) i (show (i 0).val < 12 from (i 0).isLt)

/-- The staged block at point `t`: tables `4 + 2t` and `5 + 2t`. -/
theorem finds_block (B : Nat) (c : Dev nD) (X : Buf (Elt F) (eLoc c)) (f : Buf (Elt F) (bLoc c)) (t : Fin cfg1.N) (Y : FVec F S2048x1024 .f32)
    (h : (rdat B c X f).Finds 0 t Y) (b : Nat) (hb : b < 2) : half Y b = table X (4 + (2 * t.val + b)) := by
  rw [RDat.finds_of_fetch _ (fetch1_0 t)] at h
  obtain ⟨d, rfl⟩ := h
  have ht : t.val < 6 := lt_of_lt_of_eq t.isLt N1
  have hix : ∀ t : Fin grid1.N, cc1_transform_0 (grid1.coords t) = ![t.val + 2, 0] := by decide +kernel
  funext x
  have hx : (x 0).val < 1024 := (x 0).isLt
  refine congrArg X (funext fun a => Fin.ext ?_)
  fin_cases a
  · show cc1_transform_0 (grid1.coords t) 0 * 2048 + 1 * ((1024 * b + (x 0).val) % 2048) = (1024 * (4 + (2 * t.val + b)) + (x 0).val) % 16384
    rw [hix]
    show (t.val + 2) * 2048 + 1 * ((1024 * b + (x 0).val) % 2048) = (1024 * (4 + (2 * t.val + b)) + (x 0).val) % 16384
    omega
  · show cc1_transform_0 (grid1.coords t) 1 * 1024 + 1 * (x 1).val = (x 1).val
    rw [hix]
    show 0 * 1024 + 1 * (x 1).val = (x 1).val
    omega

theorem coords_val : ∀ t : Fin grid1.N, (grid1.coords t 0).val = t.val := by decide +kernel

/-- The body at every point keeps the relation. -/
theorem body_obl (B : Nat) (c : Dev nD) (X : Buf (Elt F) (eLoc c)) (f : Buf (Elt F) (bLoc c)) :
    (rdat B c X f).BodyObligation (defs₀ (F := F)) 𝒱₀ none Set.univ := fun t Y hY => by
  rw [bigSep_W1, bigSep_W1]
  rw [show (rdat B c X f).Φ t.castSucc = iprop(emp) from rfl, show (rdat B c X f).Φ t.succ = iprop(emp) from rfl,
    show (rdat B c X f).owesAt none t.succ = (rdat B c X f).owesAt none t.castSucc from rfl]
  iintro ⟨-, HO, H0, H1⟩
  iapply (body_run c (grid1.coords t) (win1_0.stage (cfg1.slots t 0)) (hstage1_0 ((cfg1.slots t 0).cast nbuf1_0)) (win1_1.stage (cfg1.slots t 1))
    (hstage1_1 ((cfg1.slots t 1).cast nbuf1_1)) (Y 0) (Y 1) Set.univ _)
  isplitl [H0]; · iexact H0
  isplitl [H1]; · iexact H1
  iintro ⟨H0, H1⟩
  isplitr; · iempintro
  isplitl [HO]; · iexact HO
  isplitl [H0]
  · iexists (Y 0); isplitr; · ipureintro; trivial
    iexact H0
  · iexists _; isplitr; swap; (· iexact H1)
    ipureintro
    intro hrows i hi
    have hb := finds_block B c X f t (Y 0) (hY 0)
    have hi0 : (i 0).val < 2 * (t.val + 1) := hi
    unfold bodyOut
    rw [coords_val t]
    by_cases h1 : (i 0).val = 2 * t.val + 1
    · rw [if_pos h1, hb 1 (by decide)]; unfold tcOut; rw [h1]
    rw [if_neg h1]
    by_cases h0 : (i 0).val = 2 * t.val
    · rw [if_pos h0, hb 0 (by decide)]; unfold tcOut; rw [h0]; rfl
    rw [if_neg h0]
    exact hrows i (by omega)

/-! ## The region -/

/-- The family of proof data: there is one pipeline. -/
def rdats (B : Nat) (X : (c : Dev nD) → Buf (Elt F) (eLoc c)) (f : (c : Dev nD) → Buf (Elt F) (bLoc c)) :
    (p : Fin 1) → (c : Dev nD) → RDat τ (Elt F) (HIx 1) ℕ UU ℕ (Pipeline.pin (pcfgs (F := F)) (fun q => (cfgs q).toPCfg_adm) p) c :=
  fun _ c => rdat B c (X c) (f c)

/-- What the core owes (nothing), its recorded waits at levels at most `B`. -/
def owesUpTo (B : Nat) (c : Dev nD) : sProp 𝕄 :=
  iprop(∃ W, ⌜∀ p ∈ W, (K (F := F)).lev ((T c : Thread nD τ), p.1) p.2 ≤ B⌝ ∗ owes (T c : Thread nD τ) (0 : CellTallies nD τ sig (HIx 1)) W)

theorem share_full (B : Nat) (c : Dev nD) (X : Buf (Elt F) (eLoc c)) (f : Buf (Elt F) (bLoc c)) (w : Fin 2) : (rdat B c X f).share w = fullShare := by
  unfold RDat.share; split <;> rfl

/-- The first window's array is the whole encoded array, the second's the whole result. -/
theorem arr0_eq (c : Dev nD) (G : Buf (Elt F) (eLoc c)) :
    (((cfg1.win 0).arr.view.loc (c.tc : Thread nD τ) ↦[(cfg1.win 0).arr.view.set]{fullShare} G) : sProp 𝕄) = (eLoc c ↦{fullShare} G) := by
  rw [show (cfg1.win 0).arr.view.set = Finset.univ from View.set_whole main_arg0]
theorem arr1_eq (c : Dev nD) (G : Buf (Elt F) (bLoc c)) :
    (((cfg1.win 1).arr.view.loc (c.tc : Thread nD τ) ↦[(cfg1.win 1).arr.view.set]{fullShare} G) : sProp 𝕄) = (bLoc c ↦{fullShare} G) := by
  rw [show (cfg1.win 1).arr.view.set = Finset.univ from View.set_whole main_v1]

/-- After the last point the result's array is the twelve means. -/
theorem final_rows [∀ e, Nonempty (Elt F e)] (B : Nat) (c : Dev nD) (X : Buf (Elt F) (eLoc c)) (f : Buf (Elt F) (bLoc c)) (G : Buf (Elt F) (bLoc c))
    (h : (rdat B c X f).ArrAt 1 cfg1.N G) : G = tcOut X := by
  obtain ⟨Z, hZ, hG⟩ := RDat.ArrAt.emb_eq_of_wholeAt (rd := rdat B c X f) h (t₀ := t1_5) (by decide +kernel)
  have hZ' := leaves_all B c X f Z hZ
  funext j
  refine (hG j).trans ?_
  rw [hZ']; rfl

set_option backward.isDefEq.respectTransparency.types false in
/-- The TensorCore's kernel as a region: entered with the encoded array and the result at anything, left with the result
    at the twelve means. -/
def region [∀ e, Nonempty (Elt F e)] (B : Nat) (X : (c : Dev nD) → Buf (Elt F) (eLoc c)) (f : (c : Dev nD) → Buf (Elt F) (bLoc c)) :
    Pipeline.RDat.RegionSeg (pcfgs (F := F)) (fun q => (cfgs q).toPCfg_adm) (rdats B X f) (none : HIx 1) (defs₀ (F := F)) 𝒱₀ (K (F := F)).L (K (F := F)).lev 0 where
  win := launch1.win.to₀
  block_pos := launch1.block_pos
  stage_whole := launch1.stage_whole
  K := PEmpty
  osem k := k.elim
  ho := Pipeline.OwnSemFacts.none _
  hbody c := body_obl B c (X c) (f c)
  hwaits := Pipeline.RDat.hwaits_of_owed_zero _ _ _ _ _ _ 0 fun _ _ => rfl
  pre c := iprop((eLoc c ↦{fullShare} X c) ∗ (bLoc c ↦{fullShare} f c) ∗ owesUpTo B c)
  post c := iprop((eLoc c ↦{fullShare} X c) ∗ (bLoc c ↦{fullShare} tcOut (X c)) ∗ owesUpTo B c)
  X _ := BI.emp
  Y _ := BI.emp
  Z _ := BI.emp
  hentry c := by
    rw [Pipeline.ownSems0_none]
    have ha : (rdats B X f 0 c).arrays (rdats B X f 0 c).A = (iprop((eLoc c ↦{fullShare} X c) ∗ (bLoc c ↦{fullShare} f c)) : sProp 𝕄) := by
      show bigSep _ _ = _
      rw [bigSep_W1]
      exact congrArg₂ (fun a b : sProp 𝕄 => iprop(a ∗ b))
        ((congrArg (fun q => (_ ↦[_]{q} _ : sProp 𝕄)) (share_full B c (X c) (f c) 0)).trans (arr0_eq c (X c)))
        ((congrArg (fun q => (_ ↦[_]{q} _ : sProp 𝕄)) (share_full B c (X c) (f c) 1)).trans (arr1_eq c (f c)))
    iintro ⟨⟨He, Hb, HO⟩, -, -⟩
    imodintro
    isplitl [He Hb]
    · rw [ha]; isplitl [He] <;> iassumption
    isplitr; · unfold Pipeline.prefHeld; rw [show (Finset.univ : Finset (Fin 0)) = ∅ from rfl, BI.bigSep_empty]; iempintro
    isplitl [HO]
    · unfold owesUpTo
      icases HO with ⟨%W, %hW, HO⟩
      iexists W; isplitr; · ipureintro; exact fun p hp => Or.inl (hW p hp)
      iexact HO
    isplitr <;> iempintro
  hin c := by
    rw [scopedRest1_eq]
    iintro ⟨-, -, -⟩; iempintro
  hout c := by
    rw [Pipeline.ownSems0_none, scopedRest1_eq]
    iintro -
    isplitr; · iempintro
    isplitr; · iempintro
    iempintro
  hexit c := by
    unfold RDat.arraysAt
    rw [bigSep_W1]
    iintro ⟨⟨⟨%G0, %h0, H0⟩, ⟨%G1, %h1, H1⟩⟩, HO, -, -⟩
    obtain rfl : G0 = X c := (congrFun (Pipeline.RDat.ArrAt_in (rdat B c (X c) (f c)) 0 rfl cfg1.N) G0).mp h0
    obtain rfl : G1 = tcOut (X c) := final_rows B c (X c) (f c) G1 h1
    imodintro
    isplitl [H0]
    · iapply (Entails.of_eq ((congrArg (fun q => (_ ↦[_]{q} _ : sProp 𝕄)) (share_full B c (X c) (f c) 0)).trans (arr0_eq c (X c)))); iexact H0
    isplitl [H1]
    · iapply (Entails.of_eq ((congrArg (fun q => (_ ↦[_]{q} _ : sProp 𝕄)) (share_full B c (X c) (f c) 1)).trans (arr1_eq c (tcOut (X c))))); iexact H1
    unfold owesUpTo
    icases HO with ⟨%W, %hW, HO⟩
    iexists W; isplitr
    · ipureintro
      intro p hp
      rcases hW hp with h | ⟨w, s, h⟩
      · exact h
      · rw [h]; exact Nat.zero_le _
    iexact HO

end Cert.Proof

end
-- ==== Proof.Launch.lean ====
/-
  `@main` on the TensorCore — the SparseCore call, the TensorCore's call, the concatenation — and the whole program's run.
-/
module

public import proofs.«01_k».proof.Proof.Tasks
public import proofs.«01_k».proof.Proof.Region

@[expose] public section

noncomputable section

namespace Cert.Proof
open Cert.KernelIdeal Cert.KernelIdeal.Gen
open Idealize.ShloMosaic
open Idealize.ShloMosaic.ValueIdx
open Idealize.ShloMosaic.StableHlo (held wp_hlo_within)
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
variable {F : FTy → Type} [FloatOps F]

local notation "𝕄" => MT nD τ sig (HIx 1) (Elt F) ℕ UU ℕ

variable (m : (ℓ : Loc nD τ sig) → Buf (Elt F) ℓ) (ρ : Dev nD → PrngReg)

/-! ## The launch element of the ghost state -/

/-- The handshakes' rounds, the TensorCore pipeline's, and no counter. -/
def u₀ : UU :=
  (initOf (K (F := F)).hsCells (K (F := F)).hsToks,
    (initOf (Pipeline.cells cfgs cellOf_inj) (Pipeline.launchToks cfgs cellOf_inj), 1))

/-- What `@main` on device `d` is dealt for the pipeline. -/
def G (d : Dev nD) : sProp 𝕄 := iprop(Pipeline.cellsGhost cfgs EP 0 d ∗ Pipeline.toksInit cfgs EP 0 d)

omit [FloatOps F] in
/-- The launch element is its handshake part and its pipeline part. -/
theorem ownU_split (a : UH) (b : UP) : (ownU ((a, (b, 1)) : UU) : sProp 𝕄) ⊢ iprop(BI.own (EH a) ∗ BI.own (EP b)) :=
  BI.own_op_elim ((uEmb (nD := nD) (sig := sig) (Ix := HIx 1) (Val := Elt F) (Name := ℕ) (U := UU) (Lvl := ℕ)).toEmb.op_of_mem
    (Prod.mk_mem_op (URA.mem_op_one a) (URA.mem_one_op (b, (1 : Counters)))))

/-- The launch element funds the handshakes and every device's pipeline. -/
theorem hu₀ : (ownU (u₀ (F := F)) : sProp 𝕄)
    ⊢ |={Set.univ}=> iprop(BI.own (EH (initOf (K (F := F)).hsCells (K (F := F)).hsToks)) ∗ (bigSep Finset.univ (G (F := F)))
        ∗ bigSep Finset.univ fun thr : Thread nD τ => bigSep Finset.univ fun q : Fin 1 => (P m).x q thr) := by
  have hx : (bigSep Finset.univ fun thr : Thread nD τ => bigSep Finset.univ fun q : Fin 1 => (P m).x q thr : sProp 𝕄) = iprop(emp) := by
    rw [show (fun thr : Thread nD τ => bigSep Finset.univ fun q : Fin 1 => (P m).x q thr) = fun _ => (iprop(emp) : sProp 𝕄) from
      funext fun _ => bigSep_emp_const _]; exact bigSep_emp_const _
  rw [hx]
  unfold u₀
  iintro Hu
  ihave H := (ownU_split _ _) $$ Hu
  icases H with ⟨HH, HP⟩
  imod (Pipeline.fund_ghost cfgs EP cellOf_inj) $$ HP with ⟨Hg, Ht⟩
  imodintro
  isplitl [HH]; · iexact HH
  isplitl; swap; · iempintro
  unfold G
  rw [bigSep_sep', show (fun c : Dev nD => bigSep Finset.univ fun p : Fin 1 => Pipeline.cellsGhost cfgs EP p c) = fun c => (Pipeline.cellsGhost cfgs EP 0 c : sProp 𝕄) from
      funext fun c => bigSep_univ_of_subsingleton (0 : Fin 1),
    show (fun c : Dev nD => bigSep Finset.univ fun p : Fin 1 => Pipeline.toksInit cfgs EP p c) = fun c => (Pipeline.toksInit cfgs EP 0 c : sProp 𝕄) from
      funext fun c => bigSep_univ_of_subsingleton (0 : Fin 1)]
  isplitl [Hg] <;> iassumption

/-! ## The concatenation -/

abbrev pLoc (d : Dev nD) : Loc nD τ sig := (SparseCore.T d).loc main_arg1
abbrev qLoc (d : Dev nD) : Loc nD τ sig := (SparseCore.T d).loc main_arg2

abbrev a' : DevRef τ sig := Proc.devRef .tc (main_v0 : Ref sig .tc)
abbrev b' : DevRef τ sig := Proc.devRef .tc (main_v1 : Ref sig .tc)
abbrev o' : DevRef τ sig := Proc.devRef .tc (main_v2 : Ref sig .tc)

/-- The four rows over the twelve. -/
def cat (a : FVec F S4x1024 .f32) (b : FVec F S12x1024 .f32) : FVec F S16x1024 .f32 :=
  concatenate S16x1024 0 [⟨S4x1024, a⟩, ⟨S12x1024, b⟩] concatenates_S4x1024_S12x1024_S16x1024_d0

abbrev opCat : HloOp τ sig (Elt F) :=
  StableHlo.binary main_v0 main_v1 main_v2 (cat (F := F))

/-- What the kernel returns, of the encodings. -/
def kernelOut (X : FVec F S16384x1024 .f32) : FVec F S16x1024 .f32 := cat (scOut X) (tcOut X)

/-- The arrays the concatenation touches. -/
abbrev S3 : Finset (DevRef τ sig) := {a', b', o'}

omit [FloatOps F] in
theorem held_S3 (d : Dev nD) (W : Valuation τ sig (Elt F)) :
    (held (T d) S3 W : sProp 𝕄) = iprop((aLoc d ↦{fullShare} W a') ∗ (bLoc d ↦{fullShare} W b') ∗ oLoc d ↦{fullShare} W o') := by
  unfold held S3
  rw [SparseCore.bigSep_insert' (by decide), SparseCore.bigSep_insert' (by decide), bigSep_singleton]

/-- The memory at the concatenation. -/
def V1 (d : Dev nD) : Valuation τ sig (Elt F) :=
  Function.update (Function.update (fun b => m (d, b)) a' (scOut (m (eLoc d)))) b' (tcOut (m (eLoc d)))

theorem V1_a (d : Dev nD) : V1 m d a' = scOut (m (eLoc d)) :=
  (Function.update_of_ne (show a' ≠ b' by decide) _ _).trans (Function.update_self _ _ _)
theorem V1_b (d : Dev nD) : V1 m d b' = tcOut (m (eLoc d)) := Function.update_self _ _ _
theorem V1_o (d : Dev nD) : V1 m d o' = m (oLoc d) :=
  (Function.update_of_ne (show o' ≠ b' by decide) _ _).trans (Function.update_of_ne (show o' ≠ a' by decide) _ _)

/-- The concatenation's result. -/
theorem V2_o (d : Dev nD) : (opCat (F := F)).result (V1 m d) o' = kernelOut (m (eLoc d)) := by
  refine (StableHlo.binary_result main_v0 main_v1 main_v2 (cat (F := F)) _ _ _ (V1 m d)).trans ?_
  show cat (V1 m d a') (V1 m d b') = _
  rw [V1_a, V1_b]; rfl

/-! ## @main on the TensorCore -/

omit [FloatOps F] in
theorem unscopedBufs_eq (d : Dev nD) (W : (b : Ref sig .tc) → Buf (Elt F) ((d.tc : Thread nD τ).loc b)) :
    (unscopedBufs d W : sProp 𝕄) = iprop((eLoc d ↦{fullShare} W main_arg0) ∗ (pLoc d ↦{fullShare} W main_arg1) ∗ (qLoc d ↦{fullShare} W main_arg2)
      ∗ (aLoc d ↦{fullShare} W main_v0) ∗ (bLoc d ↦{fullShare} W main_v1) ∗ oLoc d ↦{fullShare} W main_v2) := by
  unfold unscopedBufs
  rw [show (Finset.univ.filter fun b : Ref sig .tc => ¬ b.isScoped) = {main_arg0, main_arg1, main_arg2, main_v0, main_v1, main_v2} by decide,
    SparseCore.bigSep_insert' (by decide), SparseCore.bigSep_insert' (by decide), SparseCore.bigSep_insert' (by decide),
    SparseCore.bigSep_insert' (by decide), SparseCore.bigSep_insert' (by decide), bigSep_singleton]

/-- The bound on what the TensorCore's recorded waits may be after the call. -/
abbrev bnd : Nat := 8 * SparseCore.Cfg.Blocks.fst 1 1 1

/-- After the call the TensorCore owes nothing; what it recorded may be taken and put back. -/
theorem tcSt_one (d : Dev nD) :
    ((K (F := F)).tcSt EH d 1 : sProp 𝕄) ⊢ iprop(owesUpTo bnd d ∗ (owesUpTo bnd d -∗ (K (F := F)).tcSt EH d 1)) := by
  unfold SparseCore.Cfg.tcSt owesUpTo
  rw [(K (F := F)).Otc_end d le_rfl]
  unfold SparseCore.Cfg.WBelow
  iintro ⟨HO, Hr⟩
  isplitl [HO]; · iexact HO
  iintro HO
  isplitl [HO]; · iexact HO
  iexact Hr

/-- What `@main` leaves: the three arguments as they were, and the result. -/
abbrev FIN (d : Dev nD) : sProp 𝕄 :=
  iprop((eLoc d ↦{fullShare} m (eLoc d)) ∗ (pLoc d ↦{fullShare} m (pLoc d)) ∗ (qLoc d ↦{fullShare} m (qLoc d)) ∗ oLoc d ↦{fullShare} kernelOut (m (eLoc d)))

theorem hCat : (opCat (F := F)).bufs ⊆ S3 := by
  rw [StableHlo.binary_bufs]

/-- `@main` on device `d`'s TensorCore, from the program's arrays to what it leaves. -/
theorem hmain [∀ e, Nonempty (Elt F e)] (κ : GSem nD τ sig → ℕ) (d : Dev nD) :
    iprop((K (F := F)).ctx EH (P m) κ ∗ (K (F := F)).tcSt EH d 0 ∗ (K (F := F)).tcRes m ρ d ∗ G d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscopedBufs_eq]
  simp only [main, wp_bind, wp_pure]
  iintro ⟨#Hctx, Hst, ⟨Hb, ⟨He, Hp, Hq, Ha, Hbb, Ho⟩, Hts, -⟩, Hg⟩
  iapply ((K (F := F)).wp_run (D (F := F)) 𝒱 (EH := EH) (P := P m) κ d 0) $$ [Hst He Ha Hp Hq Hbb Ho Hb Hts Hg]
  isplitr; · iexact Hctx
  isplitl [Hst]; · iexact Hst
  isplitl [He Ha]
  · iapply (st_intro m d (m (aLoc d))); isplitl [He] <;> iassumption
  iintro ⟨Hst, Hdn⟩
  ihave Hd := (dn_elim m d) $$ Hdn
  icases Hd with ⟨He, Ha⟩
  ihave Hst := (show ((K (F := F)).tcSt EH d ((0 : Fin 1).val + 1) : sProp 𝕄) ⊢ _ from tcSt_one d) $$ Hst
  icases Hst with ⟨HO, Hst⟩
  ihave #Hlev := ((K (F := F)).ctx_levAts κ) $$ Hctx
  iapply ((K (F := F)).wp_liftProg (D (F := F)) 𝒱 (SparseCore.T d) Set.univ none (.op (.customCall (Pipeline.entry 0) ()) .ret) _)
  iapply (Pipeline.RDat.RegionSeg.wp pcfgs (fun q => (cfgs q).toPCfg_adm) (rdats bnd (fun c => m (eLoc c)) (fun c => m (bLoc c))) (none : HIx 1) cellOf_inj EP
    defs₀ 𝒱₀ (K (F := F)).L (K (F := F)).lev (region bnd (fun c => m (eLoc c)) (fun c => m (bLoc c))) d none (fun _ h => nomatch h) .ret _)
  isplitl [Hst Ha Hp Hq Ho Hts]
  · iintro ⟨Hb, Hpost⟩
    ihave Hpost := (show ((region bnd (fun c => m (eLoc c)) (fun c => m (bLoc c))).post d : sProp 𝕄)
      ⊢ iprop((eLoc d ↦{fullShare} m (eLoc d)) ∗ (bLoc d ↦{fullShare} tcOut (m (eLoc d))) ∗ owesUpTo bnd d) from Entails.refl _) $$ Hpost
    icases Hpost with ⟨He, Hbb, HO⟩
    ihave Hst := Hst $$ HO
    rw [wp_ret]; imodintro
    iapply (wp_hlo_within 𝒱 (SparseCore.T d) none Set.univ (op := opCat) (S := S3) hCat (V := V1 m d)) $$ [Hb Ha Hbb Ho]
    · isplitl [Hb]; · iexact Hb
      rw [held_S3, V1_a, V1_b, V1_o]
      isplitl [Ha]; · iexact Ha
      isplitl [Hbb]; · iexact Hbb
      iexact Ho
    iintro ⟨Hb, Hheld⟩
    ihave Hh := (Entails.of_eq (held_S3 d _)) $$ Hheld
    rw [V2_o]
    icases Hh with ⟨-, -, Ho⟩
    rw [wp_ret]; imodintro; imodintro
    isplitl [Hst]; · iexact Hst
    isplitr [Hb Hts]
    · isplitl [He]; · iexact He
      isplitl [Hp]; · iexact Hp
      isplitl [Hq]; · iexact Hq
      iexact Ho
    isplitl [Hb] <;> iassumption
  isplitl [Hb]; · iexact Hb
  isplitl [He Hbb HO]
  · iapply (show iprop((eLoc d ↦{fullShare} m (eLoc d)) ∗ (bLoc d ↦{fullShare} m (bLoc d)) ∗ owesUpTo bnd d)
      ⊢ ((region bnd (fun c => m (eLoc c)) (fun c => m (bLoc c))).pre d : sProp 𝕄) from Entails.refl _)
    isplitl [He]; · iexact He
    isplitl [Hbb] <;> iassumption
  isplitr; · iexact Hlev
  unfold G
  iexact Hg

/-! ## The whole program -/

/-- What the final memory is on device `d`. -/
def fq (d : Dev nD) (s' : Phys nD τ sig (Elt F)) : Prop :=
  s'.mem.mem (eLoc d) = m (eLoc d) ∧ s'.mem.mem (pLoc d) = m (pLoc d) ∧ s'.mem.mem (qLoc d) = m (qLoc d) ∧ s'.mem.mem (oLoc d) = kernelOut (m (eLoc d))

/-- What is held of an array is what the memory reads there. -/
theorem reads (s' : Phys nD τ sig (Elt F)) (ℓ : Loc nD τ sig) (f : Buf (Elt F) ℓ) :
    (iprop((ℓ ↦{fullShare} f) ∗ SI s') : sProp 𝕄) ⊢ iprop(⌜s'.mem.mem ℓ = f⌝ ∗ SI s') := by
  iintro ⟨Hx, HSI⟩
  ihave H := (persistent_entails_right (SI_pointsTo_agree (st := s') (ℓ := ℓ) (I := Finset.univ) (q := fullShare) (f := f))) $$ [HSI Hx]
  · isplitl [HSI] <;> iassumption
  icases H with ⟨%hx, HSI, -⟩
  isplitr; · ipureintro; exact funext fun i => hx i (Finset.mem_univ i)
  iexact HSI

theorem hfin (d : Dev nD) (s' : Phys nD τ sig (Elt F)) : iprop(FIN m d ∗ SI s') ⊢ (⌜fq m d s'⌝ : sProp 𝕄) := by
  iintro ⟨⟨He, Hp, Hq, Ho⟩, HSI⟩
  ihave H := (reads s' (eLoc d) (m (eLoc d))) $$ [HSI He]
  · isplitl [He] <;> iassumption
  icases H with ⟨%he, HSI⟩
  ihave H := (reads s' (pLoc d) (m (pLoc d))) $$ [HSI Hp]
  · isplitl [Hp] <;> iassumption
  icases H with ⟨%hp, HSI⟩
  ihave H := (reads s' (qLoc d) (m (qLoc d))) $$ [HSI Hq]
  · isplitl [Hq] <;> iassumption
  icases H with ⟨%hq, HSI⟩
  ihave H := (reads s' (oLoc d) (kernelOut (m (eLoc d)))) $$ [HSI Ho]
  · isplitl [Ho] <;> iassumption
  icases H with ⟨%ho, -⟩
  ipureintro; exact ⟨he, hp, hq, ho⟩

/-- What every run ends in: the arguments unchanged, the result the kernel's, the counters at zero. -/
def QC : PUnit × MemSt nD τ sig (Elt F) → Prop := fun r =>
  (∀ c : Dev nD, r.2.mem (eLoc c) = m (eLoc c) ∧ r.2.mem (pLoc c) = m (pLoc c) ∧ r.2.mem (qLoc c) = m (qLoc c) ∧ r.2.mem (oLoc c) = kernelOut (m (eLoc c)))
    ∧ r.2.sem = fun _ => 0

/-- The program's run, whatever the floats are. -/
theorem run_main [∀ e, Nonempty (Elt F e)] : θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m)
    (fun q _ => match q with | 0 => SparseCore.Cfg.VecSplit.of_plain (vecSplit m))
    m ρ main G (FIN m) (u₀ (F := F)) (sep_elim_left.trans (hu₀ m)) (hmain m ρ) (fq m) (hfin m) (QC m) (fun _ h hz => ⟨h, hz⟩)

end Cert.Proof

end
-- ==== Proof.Repeat.lean ====
/- `jnp.repeat` of `0, 1, …, N - 1`, each 32 times, as the reference spells it: at equal counts of 32, entry `r` of the result is `r / 32`.
   The reference does it twice, at two extents, so everything here is stated at any extents `N` and `T = 32 N`. -/
module

public import Idealize.ShloMosaic.Lib.Routing.OpsOne
public import Idealize.ShloMosaic.Lib.Routing.OpsSet
public import Idealize.ShloMosaic.Lib.ReduceAll

@[expose] public section

noncomputable section

namespace Cert.Proof

open Idealize.ShloMosaic Idealize.ShloMosaic.ValueIdx Idealize.ShloMosaic.Routing

/-! ## Where an update lands -/

/-- The start of an update on the one operand axis that the index words address: its own index word, read signed. -/
theorem start_word {s u : Shape} {n : Nat} (d : ScatterDims s (shape2 n 1) u) (a : Fin s.rank) (hsd : d.scatterDimsToOperandDims = [a])
    (hivd : d.indexVectorDim = 1) (idx : IVec (shape2 n 1) 32) (j : u.Idx) (p : Fin n) (hj : ∀ k ∈ d.uScatter, (j k).val = p.val) :
    d.start j idx a = (idx (ix2 p (0 : Fin 1))).toInt := by
  have hm : a ∈ d.scatterDimsToOperandDims := by rw [hsd]; exact List.mem_singleton.2 rfl
  unfold ScatterDims.start
  rw [dif_pos hm]
  refine congrArg (fun i => (idx i).toInt) (funext fun b => Fin.ext ?_)
  match b with
  | ⟨0, _⟩ =>
    unfold ScatterDims.siIdx
    rw [dif_neg (by rw [hivd]; exact Nat.zero_ne_one)]
    exact hj _ (List.getElem_mem _)
  | ⟨1, _⟩ =>
    unfold ScatterDims.siIdx
    rw [dif_pos (by rw [hivd])]
    show List.idxOf a d.scatterDimsToOperandDims = 0
    rw [hsd]; simp

/-- Update `i` of a scatter of `N` scalars into a vector of `T` lands at entry `y` exactly when its index word, read signed, is `y`. -/
theorem lands_vec {N T : Nat} (d : ScatterDims (shape1 T) (shape2 N 1) (shape1 N)) (hiw : d.insertedWindowDims = [0])
    (hsd : d.scatterDimsToOperandDims = [0]) (hivd : d.indexVectorDim = 1) (idx : IVec (shape2 N 1) 32) (i : Fin N) (y : Fin T) :
    d.resultIdx? (ix1 i) idx = some (ix1 y) ↔ (idx (ix2 i (0 : Fin 1))).toInt = (y.val : Int) := by
  have hwin : d.window (ix1 i) 0 = 0 := by
    unfold ScatterDims.window
    rw [dif_neg fun h => (of_decide_eq_true (List.mem_filter.1 h).2) (by rw [hiw]; exact List.mem_singleton.2 rfl)]
  rw [resultIdx?_ix1, hwin, start_word d 0 hsd hivd idx (ix1 i) i fun k _ => by
    obtain rfl : k = 0 := Subsingleton.elim (α := Fin 1) _ _
    rfl]
  simp

/-- Entry `(p, b)` of a scatter of `T` rows into a matrix of `N` rows lands at `(s, c)` exactly when row `p`'s index word, read signed, is `s`, and `b` is `c`. -/
theorem lands_row {N T C : Nat} (d : ScatterDims (shape2 N C) (shape2 T 1) (shape2 T C)) (huw : d.updateWindowDims = [1]) (hiw : d.insertedWindowDims = [0])
    (hsd : d.scatterDimsToOperandDims = [0]) (hivd : d.indexVectorDim = 1) (idx : IVec (shape2 T 1) 32) (p : Fin T) (b : Fin C) (s : Fin N) (c : Fin C) :
    d.resultIdx? (ix2 p b) idx = some (ix2 s c) ↔ (idx (ix2 p (0 : Fin 1))).toInt = (s.val : Int) ∧ b = c := by
  have hkept : d.sKept = [1] := by
    show (shape2 N C).kept d.insertedWindowDims = _
    rw [hiw]
    rfl
  have hwin0 : d.window (ix2 p b) 0 = 0 := by
    unfold ScatterDims.window
    rw [dif_neg (by rw [hkept]; exact fun h => absurd (List.mem_singleton.1 h) (by decide : (0 : Fin 2) ≠ 1))]
  have hwin1 : d.window (ix2 p b) 1 = b.val := by
    unfold ScatterDims.window
    rw [dif_pos (by rw [hkept]; exact List.mem_singleton.2 rfl)]
    have q : ∀ X ∈ d.updateWindowDims, (ix2 p b X).val = b.val := fun X h => by
      rw [huw] at h
      obtain rfl := List.mem_singleton.1 h
      rfl
    exact q _ (List.getElem_mem _)
  have hstart1 : d.start (ix2 p b) idx 1 = 0 := by
    unfold ScatterDims.start
    rw [dif_neg (one_not_mem _ hsd)]
  have hu : d.uScatter = [0] := by
    show (shape2 T C).kept d.updateWindowDims = _
    rw [huw]
    rfl
  rw [resultIdx?_ix2, hwin0, hwin1, hstart1, start_word d 0 hsd hivd idx (ix2 p b) p fun k hk => by
    rw [hu] at hk
    obtain rfl := List.mem_singleton.1 hk
    rfl, Fin.ext_iff]
  omega

/-- A fold that adds one at some of its steps adds their number. -/
theorem foldl_add_one {ι : Type} (P : ι → Prop) [DecidablePred P] (l : List ι) (z : Nat) :
    l.foldl (fun a n => if P n then IntOp.addi a 1#32 else a) (BitVec.ofNat 32 z) = BitVec.ofNat 32 (z + l.countP fun n => decide (P n)) := by
  induction l generalizing z with
  | nil => simp
  | cons n l ih =>
    rw [List.foldl_cons, List.countP_cons]
    by_cases h : P n
    · rw [if_pos h, if_pos (decide_eq_true h), show IntOp.addi (BitVec.ofNat 32 z) 1#32 = BitVec.ofNat 32 (z + 1) from (BitVec.ofNat_add z 1).symm, ih]
      congr 1; omega
    · rw [if_neg h, if_neg (by simpa using h), ih, Nat.add_zero]

/-- Ones added into a zero vector of `T` at `N` indices: entry `y` is the number of positions whose index is `y`. -/
theorem scatter_ones {N T : Nat} (d : ScatterDims (shape1 T) (shape2 N 1) (shape1 N)) (hiw : d.insertedWindowDims = [0])
    (hsd : d.scatterDimsToOperandDims = [0]) (hivd : d.indexVectorDim = 1) (x0 : IVec (shape1 T) 32) (hx0 : ∀ i, x0 i = 0#32)
    (idx : IVec (shape2 N 1) 32) (upd : IVec (shape1 N) 32) (hupd : ∀ i, upd i = 1#32) (gi : Nat → Nat)
    (hg : ∀ i : Fin N, idx (ix2 i (0 : Fin 1)) = BitVec.ofNat 32 (gi i.val)) (hg31 : ∀ i : Fin N, gi i.val < 2 ^ 31) (y : Fin T) :
    Host.scatter d IntOp.addi x0 idx upd (ix1 y) = BitVec.ofNat 32 (Nat.count (fun i => gi i = y.val) N) := by
  rw [scatter_at, hx0]
  have hf : (fun (a : BitVec 32) (n : Fin (shape1 N).numel) =>
      if d.resultIdx? ((shape1 N).rowMajor.symm n) idx = some (ix1 y) then IntOp.addi a (upd ((shape1 N).rowMajor.symm n)) else a)
      = fun a n => if gi n.val = y.val then IntOp.addi a 1#32 else a := by
    funext a n
    rw [symm1, hupd]
    refine if_congr ?_ rfl rfl
    rw [lands_vec d hiw hsd hivd, hg, StableHlo.Predicate.toInt_ofNat_small _ (hg31 _)]
    exact Int.natCast_inj
  rw [hf, show (0#32 : BitVec 32) = BitVec.ofNat 32 0 from rfl, foldl_add_one, Nat.zero_add, countP_finRange _ (fun i => gi i = y.val), numel1]

/-! ## Counting -/

/-- The running sum of `0, 32, 32, …` is `32 i` at position `i`. -/
theorem sum_starts (i : Nat) : ((List.range (i + 1)).map fun j => if j = 0 then 0 else 32).sum = 32 * i := by
  induction i with
  | zero => rfl
  | succ i ih => rw [List.range_succ, List.map_append, List.sum_append, ih]; simp; omega

/-- Among `0, 32, 64, …, 32 (N - 1)`, a number `y < 32 N` occurs once when 32 divides it and never otherwise. -/
theorem count_starts (y N : Nat) : Nat.count (fun i => 32 * i = y) N = if y % 32 = 0 ∧ y < 32 * N then 1 else 0 := by
  induction N with
  | zero => simp
  | succ N ih =>
    rw [Nat.count_succ, ih]
    split <;> split <;> split <;> omega

/-- The multiples of 32 up to `r` number `r / 32 + 1`. -/
theorem sum_marks (r : Nat) : ((List.range (r + 1)).map fun j => if j % 32 = 0 then 1 else 0).sum = r / 32 + 1 := by
  induction r with
  | zero => rfl
  | succ r ih =>
    rw [List.range_succ, List.map_append, List.sum_append, ih]
    simp only [List.map_cons, List.map_nil, List.sum_cons, List.sum_nil]
    split <;> omega

/-! ## The operation list -/

/-- The dimension numbers and side conditions of one `jnp.repeat` of `N` numbers to `T`, as the reference's operations carry them. -/
structure RepeatDims (N Nm1 T Tm1 : Nat) where
  /-- The last element's slice. -/
  s₁ : (shape1 N).Slices ![Nm1] (shape1 1)
  /-- The other elements' slice. -/
  s₂ : (shape1 N).Slices ![0] (shape1 Nm1)
  /-- The roll joins the two. -/
  cat : Shape.Concatenates [shape1 1, shape1 Nm1] (shape1 N) 0
  /-- A scalar to one element. -/
  b₁ : shape0.BroadcastsInDim (shape1 1) (![] : Fin 0 → Fin 1)
  /-- A scalar to a scalar. -/
  b₀ : shape0.BroadcastsInDim shape0 (![] : Fin 0 → Fin 0)
  /-- A scalar to `N` elements. -/
  bN : shape0.BroadcastsInDim (shape1 N) (![] : Fin 0 → Fin 1)
  /-- A scalar to `T` elements. -/
  bT : shape0.BroadcastsInDim (shape1 T) (![] : Fin 0 → Fin 1)
  /-- A scalar to a column of `T`. -/
  bTc : shape0.BroadcastsInDim (shape2 T 1) (![] : Fin 0 → Fin 2)
  /-- `N` elements to a column. -/
  cN : (shape1 N).BroadcastsInDim (shape2 N 1) (![0] : Fin 1 → Fin 2)
  /-- `T` elements to a column. -/
  cT : (shape1 T).BroadcastsInDim (shape2 T 1) (![0] : Fin 1 → Fin 2)
  /-- One element to a matrix of one. -/
  c₁ : (shape1 1).BroadcastsInDim (shape2 1 1) (![1] : Fin 1 → Fin 2)
  /-- A matrix of one to a column of `T`. -/
  c₁T : (shape2 1 1).BroadcastsInDim (shape2 T 1) (![0, 1] : Fin 2 → Fin 2)
  /-- The write of one element. -/
  set : ScatterDims (shape1 N) (shape1 1) shape0
  /-- The addition of ones. -/
  add : ScatterDims (shape1 T) (shape2 N 1) (shape1 N)
  /-- The final look-up. -/
  take : GatherDims (shape1 N) (shape2 T 1) (shape1 T)
  /-- The running sum over `N`. -/
  wN : (shape1 N).ReduceWindows (![N] : Fin 1 → Nat) ![1] ![Nm1] ![0] (shape1 N)
  /-- The running sum over `T`. -/
  wT : (shape1 T).ReduceWindows (![T] : Fin 1 → Nat) ![1] ![Tm1] ![0] (shape1 T)
  /-- A column's mask to a vector. -/
  red : (shape2 T 1).ReducesTo [1] (shape1 T)
  /-- A scalar has an element. -/
  h₀ : 0 < shape0.numel

namespace RepeatDims

variable {N Nm1 T Tm1 : Nat} (S : RepeatDims N Nm1 T Tm1)

/-- The counts rolled by one, the first set to zero, summed: where each number's run starts. -/
def starts (x : IVec (shape1 N) 32) : IVec (shape1 N) 32 :=
  Host.reduceWindow IntOp.addi ![N] ![1] ![Nm1] ![0]
    (Host.scatter S.set (fun _ b => b)
      (concatenate (shape1 N) 0 [⟨shape1 1, extractStridedSlice (shape1 1) ![Nm1] x S.s₁⟩, ⟨shape1 Nm1, extractStridedSlice (shape1 Nm1) ![0] x S.s₂⟩] S.cat)
      (broadcastInDim (shape1 1) ![] S.b₁ (constantI shape0 32 0#32)) (constantI shape0 32 0#32))
    (broadcastInDim shape0 ![] S.b₀ (constantI shape0 32 0#32)) S.wN S.h₀

/-- A one added at each start, the running sum less one: which run each position lies in. -/
def run (x : IVec (shape1 N) 32) : IVec (shape1 T) 32 :=
  subi (Host.reduceWindow IntOp.addi ![T] ![1] ![Tm1] ![0]
      (Host.scatter S.add IntOp.addi (broadcastInDim (shape1 T) ![] S.bT (constantI shape0 32 0#32))
        (broadcastInDim (shape2 N 1) ![0] S.cN
          (select (cmpi .slt (S.starts x) (broadcastInDim (shape1 N) ![] S.bN (constantI shape0 32 0#32)))
            (addi (S.starts x) (broadcastInDim (shape1 N) ![] S.bN (constantI shape0 32 (BitVec.ofNat 32 T)))) (S.starts x)))
        (broadcastInDim (shape1 N) ![] S.bN (constantI shape0 32 1#32)))
      (broadcastInDim shape0 ![] S.b₀ (constantI shape0 32 0#32)) S.wT S.h₀)
    (broadcastInDim (shape1 T) ![] S.bT (constantI shape0 32 1#32))

/-- The run's number as the look-up's index column. -/
def col (x : IVec (shape1 N) 32) : IVec (shape2 T 1) 32 :=
  broadcastInDim (shape2 T 1) ![0] S.cT
    (select (cmpi .slt (S.run x) (broadcastInDim (shape1 T) ![] S.bT (constantI shape0 32 0#32)))
      (addi (S.run x) (broadcastInDim (shape1 T) ![] S.bT (constantI shape0 32 (BitVec.ofNat 32 N)))) (S.run x))

/-- The repeated numbers: the look-up of `0, 1, …, N - 1`, an index out of bounds giving the least word. -/
def ids (x : IVec (shape1 N) 32) : IVec (shape1 T) 32 :=
  select (Host.reduce IntOp.andi
      (andi (cmpi .sge (S.col x) (broadcastInDim (shape2 T 1) ![] S.bTc (constantI shape0 32 0#32)))
        (cmpi .sle (S.col x) (broadcastInDim (shape2 T 1) ![0, 1] S.c₁T (broadcastInDim (shape2 1 1) ![1] S.c₁ (constantI (shape1 1) 32 (BitVec.ofNat 32 Nm1))))))
      (constantI shape0 1 1#1) S.red S.h₀)
    (Host.gather S.take (iotaInDim (shape1 N) 32 0) (S.col x)) (broadcastInDim (shape1 T) ![] S.bT (constantI shape0 32 2147483648#32))

/-- The rolled counts are counts again: all 32. -/
theorem rolled (hN : Nm1 + 1 = N) (x : IVec (shape1 N) 32) (hx : ∀ i, x i = 32#32) (i : Fin N) :
    concatenate (shape1 N) 0 [⟨shape1 1, extractStridedSlice (shape1 1) ![Nm1] x S.s₁⟩, ⟨shape1 Nm1, extractStridedSlice (shape1 Nm1) ![0] x S.s₂⟩] S.cat (ix1 i)
      = 32#32 := by
  by_cases h : i.val = 0
  · rw [concatenate_pair_apply_left (t := shape1 N) (s₁ := shape1 1) (s₂ := shape1 Nm1) 0 _ _ S.cat (ix1 i) rfl (ix1 (0 : Fin 1)) fun b => by
      obtain rfl : b = 0 := Subsingleton.elim (α := Fin 1) _ _
      exact h.symm]
    exact hx _
  · have hi : i.val - 1 < Nm1 := by omega
    rw [concatenate_pair_apply_right (t := shape1 N) (s₁ := shape1 1) (s₂ := shape1 Nm1) 0 _ _ S.cat (ix1 i) rfl rfl (ix1 (⟨i.val - 1, hi⟩ : Fin Nm1))
      (fun b hb => absurd (Subsingleton.elim (α := Fin 1) _ _) hb) (by show i.val - 1 + 1 = i.val; omega)]
    exact hx _

/-- Run `i` starts at `32 i`. -/
theorem starts_read (hN : Nm1 + 1 = N) (hiw : S.set.insertedWindowDims = [0]) (hsd : S.set.scatterDimsToOperandDims = [0])
    (x : IVec (shape1 N) 32) (hx : ∀ i, x i = 32#32) (i : Fin N) : S.starts x (ix1 i) = BitVec.ofNat 32 (32 * i.val) := by
  unfold starts
  rw [cumsum1 hN _ (fun j => if j = 0 then 0 else 32) (fun j => ?_) _ (bc0 _ _ _), sum_starts]
  rw [scatter_one S.set hiw hsd _ _ _ (⟨0, by omega⟩ : Fin N) (by show (0 : Nat) < _; omega) (bc0 _ _ _)]
  by_cases h : j.val = 0
  · rw [if_pos (Fin.ext h), if_pos h]; rfl
  · rw [if_neg fun e => h (congrArg Fin.val e), if_neg h]
    exact S.rolled hN x hx j

/-- Position `r` lies in run `r / 32`. -/
theorem run_read (hN : Nm1 + 1 = N) (hT : Tm1 + 1 = T) (hNT : 32 * N = T) (hT31 : T < 2 ^ 31)
    (hiw : S.set.insertedWindowDims = [0]) (hsd : S.set.scatterDimsToOperandDims = [0])
    (haiw : S.add.insertedWindowDims = [0]) (hasd : S.add.scatterDimsToOperandDims = [0]) (haiv : S.add.indexVectorDim = 1)
    (x : IVec (shape1 N) 32) (hx : ∀ i, x i = 32#32) (r : Fin T) : S.run x (ix1 r) = BitVec.ofNat 32 (r.val / 32) := by
  unfold run
  show IntOp.subi _ _ = _
  rw [bc0, cumsum1 hT _ (fun j => if j % 32 = 0 then 1 else 0) (fun y => ?_) _ (bc0 _ _ _), sum_marks]
  · show BitVec.ofNat 32 (r.val / 32 + 1) - BitVec.ofNat 32 1 = _
    rw [BitVec.ofNat_add, BitVec.add_sub_cancel]
  · rw [scatter_ones S.add haiw hasd haiv _ (fun i => bc0 _ _ _) _ _ (fun i => bc0 _ _ _) (fun i => 32 * i) (fun i => ?_) (fun i => by omega), count_starts]
    · have := y.isLt
      refine congrArg (BitVec.ofNat 32) (if_congr ⟨fun h => h.1, fun h => ⟨h, by omega⟩⟩ rfl rfl)
    · rw [bcCol]
      show Scalar.select (IntOp.cmpi .slt (S.starts x (ix1 i)) _) _ (S.starts x (ix1 i)) = _
      rw [bc0, S.starts_read hN hiw hsd x hx i]
      refine wrap_of_lt _ _ ?_
      rw [BitVec.toNat_ofNat]
      exact lt_of_le_of_lt (Nat.mod_le _ _) (by show _ < 2 ^ 31; omega)

/-- **The repeat**: with every count 32, entry `r` is `r / 32`. -/
theorem ids_read (hN : Nm1 + 1 = N) (hT : Tm1 + 1 = T) (hNT : 32 * N = T) (hT31 : T < 2 ^ 31)
    (hiw : S.set.insertedWindowDims = [0]) (hsd : S.set.scatterDimsToOperandDims = [0])
    (haiw : S.add.insertedWindowDims = [0]) (hasd : S.add.scatterDimsToOperandDims = [0]) (haiv : S.add.indexVectorDim = 1)
    (hcoll : S.take.collapsedSliceDims = [0]) (hob : S.take.operandBatchingDims = []) (hsim : S.take.startIndexMap = [0]) (hivd : S.take.indexVectorDim = 1)
    (x : IVec (shape1 N) 32) (hx : ∀ i, x i = 32#32) (r : Fin T) : S.ids x (ix1 r) = BitVec.ofNat 32 (r.val / 32) := by
  have hcol : ∀ p : Fin T, S.col x (ix2 p (0 : Fin 1)) = BitVec.ofNat 32 (p.val / 32) := fun p => by
    unfold col
    rw [bcCol]
    show Scalar.select (IntOp.cmpi .slt (S.run x (ix1 p)) _) _ (S.run x (ix1 p)) = _
    rw [bc0, S.run_read hN hT hNT hT31 hiw hsd haiw hasd haiv x hx p]
    refine wrap_of_lt _ _ ?_
    rw [BitVec.toNat_ofNat]
    exact lt_of_le_of_lt (Nat.mod_le _ _) (by show _ < 2 ^ 31; omega)
  have hmask : ∀ i : (shape2 T 1).Idx,
      andi (cmpi .sge (S.col x) (broadcastInDim (shape2 T 1) ![] S.bTc (constantI shape0 32 0#32)))
        (cmpi .sle (S.col x) (broadcastInDim (shape2 T 1) ![0, 1] S.c₁T (broadcastInDim (shape2 1 1) ![1] S.c₁ (constantI (shape1 1) 32 (BitVec.ofNat 32 Nm1))))) i
        = 1#1 := fun i => by
    obtain ⟨p, q, rfl⟩ : ∃ (p : Fin T) (q : Fin 1), i = ix2 p q := ⟨i 0, i 1, eq_ix2 i⟩
    obtain rfl : q = 0 := Subsingleton.elim _ _
    show IntOp.andi (IntOp.cmpi .sge (S.col x (ix2 p (0 : Fin 1))) _) (IntOp.cmpi .sle (S.col x (ix2 p (0 : Fin 1))) (BitVec.ofNat 32 Nm1)) = 1#1
    have hp := p.isLt
    rw [bc0, hcol p]
    show IntOp.andi (BitVec.ofBool (BitVec.sle 0#32 (BitVec.ofNat 32 (p.val / 32)))) (BitVec.ofBool (BitVec.sle (BitVec.ofNat 32 (p.val / 32)) (BitVec.ofNat 32 Nm1))) = 1#1
    have hle : ∀ a b : Nat, a ≤ b → b < 2 ^ 31 → BitVec.sle (BitVec.ofNat 32 a) (BitVec.ofNat 32 b) = true := fun a b hab hb => by
      rw [BitVec.sle_eq_decide, StableHlo.Predicate.toInt_ofNat_small a (by omega), StableHlo.Predicate.toInt_ofNat_small b hb]
      exact decide_eq_true (by omega)
    have h1 := hle 0 (p.val / 32) (by omega) (by omega)
    have h2 := hle (p.val / 32) Nm1 (by omega) (by omega)
    rw [h1, h2]; rfl
  have hr := r.isLt
  unfold ids
  show Scalar.select _ _ _ = _
  rw [Host.reduce_andi_one _ _ S.red S.h₀ (ix1 r) rfl hmask,
    gather_take1 S.take hcoll hob hsim hivd _ _ r (⟨r.val / 32, by omega⟩ : Fin N) (hcol r) (by omega)]
  rfl

end RepeatDims

end Cert.Proof

end
-- ==== Proof.Mean.lean ====
/- The reference's segment mean, and the reference's result: at equal counts of 32, row `t` of the result is the mean of rows `1024 t` to `1024 t + 1023`
   of the encodings, on the extended reals. -/
module

public import proofs.«01_k».proof.Proof.Repeat
public import proofs.«01_k».proof.Proof.Gen.ReferenceIdeal.Run
public import Idealize.ShloMosaic.PureOps.Ideal
public import Mathlib.Data.EReal.Inv

@[expose] public section

noncomputable section

namespace Cert.Proof

open Idealize.ShloMosaic Idealize.ShloMosaic.ValueIdx Idealize.ShloMosaic.Routing
open scoped BigOperators

/-! ## Sums of extended reals -/

/-- A real factor that is not negative leaves a sum of extended reals. -/
theorem sum_mul_real {ι : Type} (l : Finset ι) (f : ι → EReal) (w : ℝ) (hw : 0 ≤ w) : ∑ i ∈ l, f i * (w : EReal) = (∑ i ∈ l, f i) * (w : EReal) := by
  classical
  induction l using Finset.induction_on with
  | empty => simp
  | insert a l ha ih =>
    rw [Finset.sum_insert ha, Finset.sum_insert ha, ih, EReal.right_distrib_of_nonneg_of_ne_top (by exact_mod_cast hw) (EReal.coe_ne_top w)]

/-- Division by 32 is multiplication by `1 / 32`. -/
theorem div_32 (x : EReal) : Ideal.div x ((((32#32 : BitVec 32).toInt : ℝ) : EReal)) = x * ((1 / 32 : ℝ) : EReal) := by
  have h : ((32#32 : BitVec 32).toInt : ℝ) = 32 := by
    rw [show (32#32 : BitVec 32).toInt = 32 by decide]; norm_num
  rw [h]
  unfold Ideal.div
  rw [if_neg (by exact_mod_cast (by norm_num : (32 : ℝ) ≠ 0)), ← EReal.coe_inv]
  norm_num

/-- Thirty-two sums of thirty-two are one sum of 1024. -/
theorem sum_1024 {M : Type} [AddCommMonoid M] (f : Nat → M) : ∑ s : Fin 32, ∑ k : Fin 32, f (32 * s.val + k.val) = ∑ n : Fin 1024, f n.val := by
  rw [← Fintype.sum_prod_type' (f := fun (s k : Fin 32) => f (32 * s.val + k.val))]
  refine Fintype.sum_equiv (finProdFinEquiv (m := 32) (n := 32)) _ _ fun x => congrArg f ?_
  show 32 * x.1.val + x.2.val = x.2.val + 32 * x.1.val
  omega

/-! ## One segment mean -/

/-- The segment sum: rows added into `N` segments of a zero matrix, row `p` into segment `p / 32`; segment `s` ends as the sum of rows `32 s` to `32 s + 31`. -/
theorem segment_sum {N T C : Nat} (hNT : 32 * N = T) (hT31 : T < 2 ^ 31) (d : ScatterDims (shape2 N C) (shape2 T 1) (shape2 T C))
    (huw : d.updateWindowDims = [1]) (hiw : d.insertedWindowDims = [0]) (hsd : d.scatterDimsToOperandDims = [0]) (hivd : d.indexVectorDim = 1)
    (x0 : FVec Ideal (shape2 N C) .f32) (idx : IVec (shape2 T 1) 32) (hidx : ∀ p : Fin T, idx (ix2 p (0 : Fin 1)) = BitVec.ofNat 32 (p.val / 32))
    (X : FVec Ideal (shape2 T C) .f32) (s : Fin N) (c : Fin C) (hx0 : x0 (ix2 s c) = (0 : EReal)) :
    Host.scatterAdd d x0 idx X (ix2 s c) = (∑ k : Fin 32, X (ix2 ⟨32 * s.val + k.val, by omega⟩ c) : EReal) := by
  show x0 (ix2 s c) + (∑ j ∈ Finset.univ.filter (fun j => d.resultIdx? j idx = some (ix2 s c)), X j : EReal) = _
  rw [hx0, zero_add]
  have hl : ∀ (p : Fin T) (b : Fin C), d.resultIdx? (ix2 p b) idx = some (ix2 s c) ↔ p.val / 32 = s.val ∧ b = c := fun p b => by
    have hp := p.isLt
    rw [lands_row d huw hiw hsd hivd, hidx, StableHlo.Predicate.toInt_ofNat_small _ (by omega), Int.natCast_inj]
  refine (Finset.sum_bij (fun (k : Fin 32) _ => (ix2 (⟨32 * s.val + k.val, by omega⟩ : Fin T) c : (shape2 T C).Idx)) (fun k _ => ?_) (fun a _ b _ h => ?_)
    (fun j hj => ?_) (fun _ _ => rfl)).symm
  · exact Finset.mem_filter.2 ⟨Finset.mem_univ _, (hl _ _).2 ⟨by show (32 * s.val + k.val) / 32 = s.val; omega, rfl⟩⟩
  · have h0 := congrArg Fin.val (congrFun h 0)
    change 32 * s.val + a.val = 32 * s.val + b.val at h0
    exact Fin.ext (by omega)
  · obtain ⟨p, b, rfl⟩ : ∃ (p : Fin T) (b : Fin C), j = ix2 p b := ⟨j 0, j 1, eq_ix2 j⟩
    obtain ⟨hp, rfl⟩ := (hl p b).1 (Finset.mem_filter.1 hj).2
    refine ⟨⟨p.val % 32, Nat.mod_lt _ (by omega)⟩, Finset.mem_univ _, ?_⟩
    refine congrArg (fun q : Fin T => ix2 q b) (Fin.ext ?_)
    show 32 * s.val + p.val % 32 = p.val
    omega

/-- The segment mean as the reference spells it, of `T` rows in `N` segments: the segment sum over the repeated segment numbers, divided row by row by the counts. -/
def segmentMean {N Nm1 T Tm1 C : Nat} (S : RepeatDims N Nm1 T Tm1) (d : ScatterDims (shape2 N C) (shape2 T 1) (shape2 T C))
    (b₀ : shape0.BroadcastsInDim (shape2 N C) (![] : Fin 0 → Fin 2)) (b₁ : (shape2 N 1).BroadcastsInDim (shape2 N C) (![0, 1] : Fin 2 → Fin 2))
    (X : FVec Ideal (shape2 T C) .f32) (n : IVec (shape1 N) 32) : FVec Ideal (shape2 N C) .f32 :=
  Host.divf (Host.scatterAdd d (broadcastInDim (shape2 N C) ![] b₀ (constant shape0 .f32 0x00000000#32)) (broadcastInDim (shape2 T 1) ![0] S.cT (S.ids n)) X)
    (broadcastInDim (shape2 N C) ![0, 1] b₁ (broadcastInDim (shape2 N 1) ![0] S.cN (sitofp .f32 n)))

/-- With every count 32, row `s` of the segment mean is the sum of rows `32 s` to `32 s + 31`, times `1 / 32`. -/
theorem segmentMean_read {N Nm1 T Tm1 C : Nat} (S : RepeatDims N Nm1 T Tm1) (d : ScatterDims (shape2 N C) (shape2 T 1) (shape2 T C))
    (b₀ : shape0.BroadcastsInDim (shape2 N C) (![] : Fin 0 → Fin 2)) (b₁ : (shape2 N 1).BroadcastsInDim (shape2 N C) (![0, 1] : Fin 2 → Fin 2))
    (hN : Nm1 + 1 = N) (hT : Tm1 + 1 = T) (hNT : 32 * N = T) (hT31 : T < 2 ^ 31)
    (hiw : S.set.insertedWindowDims = [0]) (hsd : S.set.scatterDimsToOperandDims = [0])
    (haiw : S.add.insertedWindowDims = [0]) (hasd : S.add.scatterDimsToOperandDims = [0]) (haiv : S.add.indexVectorDim = 1)
    (hcoll : S.take.collapsedSliceDims = [0]) (hob : S.take.operandBatchingDims = []) (hsim : S.take.startIndexMap = [0]) (hivd : S.take.indexVectorDim = 1)
    (hduw : d.updateWindowDims = [1]) (hdiw : d.insertedWindowDims = [0]) (hdsd : d.scatterDimsToOperandDims = [0]) (hdiv : d.indexVectorDim = 1)
    (X : FVec Ideal (shape2 T C) .f32) (n : IVec (shape1 N) 32) (hn : ∀ i, n i = 32#32) (s : Fin N) (c : Fin C) :
    segmentMean S d b₀ b₁ X n (ix2 s c) = (∑ k : Fin 32, X (ix2 ⟨32 * s.val + k.val, by omega⟩ c) : EReal) * ((1 / 32 : ℝ) : EReal) := by
  unfold segmentMean
  show Ideal.div _ _ = _
  rw [bcRows, show sitofp (F := Ideal) .f32 n (ix1 s) = (((n (ix1 s)).toInt : ℝ) : EReal) from rfl, hn, div_32,
    segment_sum hNT hT31 d hduw hdiw hdsd hdiv _ _ (fun p => ?_) X s c ?_]
  · rw [bc0]
    show Ideal.ofBits .f32 0x00000000#32 = 0
    simp [Ideal.ofBits, Ideal.ieee]
  · rw [bcCol]
    exact S.ids_read hN hT hNT hT31 hiw hsd haiw hasd haiv hcoll hob hsim hivd n hn p

/-! ## The reference -/

/-- The mean of table `t` of the encodings at column `c`: the 1024 rows from `1024 t` on, summed, times `1 / 1024`. -/
def tableMean (X : (shape2 16384 1024).Idx → EReal) (t : Nat) (c : Fin 1024) : EReal :=
  (∑ n : Fin 1024, X (ix2 (Fin.ofNat 16384 (1024 * t + n.val)) c)) * ((1 / 1024 : ℝ) : EReal)

section
open Cert.ReferenceIdeal Cert.ReferenceIdeal.Facts Cert.ReferenceIdeal.Facts₀
variable [Cert.ReferenceIdeal.Facts]

/-- The first stage's repeat: 512 columns to 16384 rows. -/
def rowDims : RepeatDims 512 511 16384 16383 :=
  ⟨slices_S512_S1_511, slices_S512_S511_0, concatenates_S1_S511_S512_d0, bcast_S_S1, bcast_S_S_, bcast_S_S512, bcast_S_S16384, bcast_S_S16384x1,
    bcast_S512_S512x1_0, bcast_S16384_S16384x1_0, bcast_S1_S1x1_1, bcast_S1x1_S16384x1_0_1, scatter_S512_S1_S__n_0_0_0, scatter_S16384_S512x1_S512_n_0_0_1,
    gather_S512_S16384x1_S16384_n_0_n_n_0_1_1, reduceWindows_S512_S512_w512s1p511_0, reduceWindows_S16384_S16384_w16384s1p16383_0,
    reducesTo_S16384x1_S16384_d1, h_S_⟩

/-- The second stage's repeat: 16 tables to 512 columns. -/
def colDims : RepeatDims 16 15 512 511 :=
  ⟨slices_S16_S1_15, slices_S16_S15_0, concatenates_S1_S15_S16_d0, bcast_S_S1, bcast_S_S_, bcast_S_S16, bcast_S_S512, bcast_S_S512x1,
    bcast_S16_S16x1_0, bcast_S512_S512x1_0, bcast_S1_S1x1_1, bcast_S1x1_S512x1_0_1, scatter_S16_S1_S__n_0_0_0, scatter_S512_S16x1_S16_n_0_0_1,
    gather_S16_S512x1_S512_n_0_n_n_0_1_1, reduceWindows_S16_S16_w16s1p15_0, reduceWindows_S512_S512_w512s1p511_0,
    reducesTo_S512x1_S512_d1, h_S_⟩

/-- The reference's result: the second stage's segment mean of the first's. -/
def refOut (X : FVec Ideal S16384x1024 .f32) (A : IVec S512 32) (B : IVec S16 32) : FVec Ideal S16x1024 .f32 :=
  segmentMean colDims scatter_S16x1024_S512x1_S512x1024_1_0_0_1 bcast_S_S16x1024 bcast_S16x1_S16x1024_0_1
    (segmentMean rowDims scatter_S512x1024_S16384x1_S16384x1024_1_0_0_1 bcast_S_S512x1024 bcast_S512x1_S512x1024_0_1 X A) B

/-- With every count 32, entry `(t, c)` of the reference's result is the mean of table `t` at column `c`. -/
theorem refOut_read (X : FVec Ideal S16384x1024 .f32) (A : IVec S512 32) (B : IVec S16 32) (hA : ∀ i, A i = 32#32) (hB : ∀ i, B i = 32#32)
    (t : Fin 16) (c : Fin 1024) : refOut X A B (ix2 t c) = tableMean X t.val c := by
  unfold refOut
  rw [segmentMean_read colDims scatter_S16x1024_S512x1_S512x1024_1_0_0_1 bcast_S_S16x1024 bcast_S16x1_S16x1024_0_1 rfl rfl rfl (by norm_num)
    rfl rfl rfl rfl rfl rfl rfl rfl rfl rfl rfl rfl rfl _ B hB t c]
  have h1 : ∀ s : Fin 32, segmentMean rowDims scatter_S512x1024_S16384x1_S16384x1024_1_0_0_1 bcast_S_S512x1024 bcast_S512x1_S512x1024_0_1 X A
      (ix2 (⟨32 * t.val + s.val, by omega⟩ : Fin 512) c)
      = (∑ k : Fin 32, X (ix2 (Fin.ofNat 16384 (1024 * t.val + (32 * s.val + k.val))) c) : EReal) * ((1 / 32 : ℝ) : EReal) := fun s => by
    rw [segmentMean_read rowDims scatter_S512x1024_S16384x1_S16384x1024_1_0_0_1 bcast_S_S512x1024 bcast_S512x1_S512x1024_0_1 rfl rfl rfl (by norm_num)
      rfl rfl rfl rfl rfl rfl rfl rfl rfl rfl rfl rfl rfl X A hA _ c]
    refine congrArg (· * ((1 / 32 : ℝ) : EReal)) (Finset.sum_congr rfl fun k _ => congrArg (fun q => X (ix2 q c)) (Fin.ext ?_))
    have ht := t.isLt
    show 32 * (32 * t.val + s.val) + k.val = (1024 * t.val + (32 * s.val + k.val)) % 16384
    omega
  rw [Finset.sum_congr rfl fun s _ => h1 s, sum_mul_real _ _ _ (by norm_num), sum_1024 (fun n => (X (ix2 (Fin.ofNat 16384 (1024 * t.val + n)) c) : EReal)),
    mul_assoc, ← EReal.coe_mul]
  unfold tableMean
  norm_num

end

/-- What the reference's run ends with is `refOut` of its three arguments. -/
theorem res_eq (m : (ℓ : Loc Cert.ReferenceIdeal.nD Cert.ReferenceIdeal.τ Cert.ReferenceIdeal.sig) → Buf (Elt Ideal) ℓ) (c : Dev Cert.ReferenceIdeal.nD) :
    letI := Cert.ReferenceIdeal.Gen.facts
    Cert.ReferenceIdeal.Value.res_main_v49 m c
      = refOut (m ((c.tc : Thread Cert.ReferenceIdeal.nD Cert.ReferenceIdeal.τ).loc Cert.ReferenceIdeal.main_arg0))
        (m ((c.tc : Thread Cert.ReferenceIdeal.nD Cert.ReferenceIdeal.τ).loc Cert.ReferenceIdeal.main_arg1))
        (m ((c.tc : Thread Cert.ReferenceIdeal.nD Cert.ReferenceIdeal.τ).loc Cert.ReferenceIdeal.main_arg2)) := rfl

end Cert.Proof

end
-- ==== Proof.Equation.lean ====
/- The kernel's result on the extended reals, and the equation: under equal counts of 32 it is the reference's. -/
module

public import proofs.«01_k».proof.Defs
public import proofs.«01_k».proof.Proof.Launch
public import proofs.«01_k».proof.Proof.Mean
public import proofs.«01_k».proof.Proof.Gen.Pre_uniform
public import Idealize.ShloMosaic.Lib.Pointwise.Reduce
public import Idealize.ShloMosaic.Lib.ValueLayout

@[expose] public section

noncomputable section

namespace Cert.Proof

open Cert.KernelIdeal Cert.KernelIdeal.Gen
open Idealize.ShloMosaic hiding ix0 ix2 eq_ix2
open Idealize.ShloMosaic.ValueIdx
open scoped BigOperators

/-! ## The kernel's result -/

/-- The pattern of 2⁻¹⁰ denotes `1 / 1024`. -/
theorem ofBits_scale : Ideal.ofBits .f32 0x3A800000#32 = ((1 / 1024 : ℝ) : EReal) := by
  simp [Ideal.ofBits, Ideal.ieee, -EReal.coe_mul]; norm_num

/-- Rows added in order onto zero are the rows' sum. -/
theorem colSum_eq (X : FVec Ideal S16384x1024 .f32) (t : Nat) (c : Fin 1024) (n : Nat) :
    colSum X t c n = (∑ k : Fin n, X (ix2 (Fin.ofNat 16384 (1024 * t + k.val)) c) : EReal) := by
  induction n with
  | zero =>
    show Ideal.ofBits .f32 0x00000000#32 = _
    simp [Ideal.ofBits, Ideal.ieee]
  | succ n ih =>
    rw [Fin.sum_univ_castSucc]
    exact congrArg (· + (X (ix2 (Fin.ofNat 16384 (1024 * t + n)) c) : EReal)) ih

/-- The SparseCore's row `t` is the mean of table `t`. -/
theorem scOut_read (X : FVec Ideal S16384x1024 .f32) (t : Fin 4) (c : Fin 1024) : scOut X (ix2 t c) = tableMean X t.val c := by
  show (colSum X t.val c 1024 : EReal) * Ideal.ofBits .f32 0x3A800000#32 = _
  rw [colSum_eq, ofBits_scale]
  rfl

/-- The TensorCore's row `t` is the mean of table `4 + t`. -/
theorem tcOut_read (X : FVec Ideal S16384x1024 .f32) (t : Fin 12) (c : Fin 1024) : tcOut X (ix2 t c) = tableMean X (4 + t.val) c := by
  show shapeCast S1x1024 (mulf (multiReduction .add [0] S1024 (table X (4 + t.val)) 0x00000000#32 reduces_S1024x1024_S1024 (.inl rfl) rfl)
    (broadcast S1024 (Scalar.ofBits .f32 0x3A800000#32))) shapeCasts_S1024_S1x1024 (ix2 (0 : Fin 1) c) = _
  rw [shapeCast_a_1a_apply]
  show (Ideal.reduceAdd _ _ _ : EReal) * Ideal.ofBits .f32 0x3A800000#32 = _
  rw [Ideal.reduceAdd_r2_a0, ofBits_scale]
  rfl

/-- **The kernel's entry `(t, c)`** is the mean of table `t` at column `c`. -/
theorem kernelOut_read (X : FVec Ideal S16384x1024 .f32) (t : Fin 16) (c : Fin 1024) : kernelOut X (ix2 t c) = tableMean X t.val c := by
  unfold kernelOut cat
  by_cases h : t.val < 4
  · rw [concatenate_pair_apply_left (t := S16x1024) (s₁ := S4x1024) (s₂ := S12x1024) 0 _ _ concatenates_S4x1024_S12x1024_S16x1024_d0 (ix2 t c) rfl
      (ix2 (⟨t.val, h⟩ : Fin 4) c) fun b => by
        match b with
        | ⟨0, _⟩ => rfl
        | ⟨1, _⟩ => rfl]
    exact scOut_read X ⟨t.val, h⟩ c
  · have ht := t.isLt
    rw [concatenate_pair_apply_right (t := S16x1024) (s₁ := S4x1024) (s₂ := S12x1024) 0 _ _ concatenates_S4x1024_S12x1024_S16x1024_d0 (ix2 t c) rfl rfl
      (ix2 (⟨t.val - 4, by omega⟩ : Fin 12) c) (fun b hb => by
        match b with
        | ⟨0, _⟩ => exact absurd rfl hb
        | ⟨1, _⟩ => rfl) (by show t.val - 4 + 4 = t.val; omega)]
    rw [tcOut_read]
    show tableMean X (4 + (t.val - 4)) c = _
    rw [show 4 + (t.val - 4) = t.val by omega]

/-! ## The precondition read back, and the equation -/

/-- Where `uniform` holds, every count of either array is 32. -/
theorem uniform_counts [Cert.Pre_uniform.Facts] (X : FVec Ideal S16384x1024 .f32) (A : IVec S512 32) (B : IVec S16 32)
    (h : Cert.Pre_uniform.fn X A B = fun _ => 1#1) : (∀ i, A i = 32#32) ∧ ∀ i, B i = 32#32 := by
  haveI : Subsingleton Cert.Pre_uniform.S_.Idx := ⟨fun a b => funext fun i => i.elim0⟩
  obtain ⟨ha, hb⟩ := IntOp.andi_eq_one.1 (congrFun h ix0)
  exact ⟨fun i => IntOp.cmpi_eq.1 (Host.reduce_andi_all _ _ _ _ _ ha i), fun i => IntOp.cmpi_eq.1 (Host.reduce_andi_all _ _ _ _ _ hb i)⟩

/-- **The equation**: where `uniform` holds, the kernel's result is the reference's. -/
theorem kernelOut_eq_refOut [Cert.Pre_uniform.Facts] [Cert.ReferenceIdeal.Facts] (X : FVec Ideal S16384x1024 .f32) (A : IVec S512 32) (B : IVec S16 32)
    (h : Cert.Pre_uniform.fn X A B = fun _ => 1#1) : kernelOut X = refOut X A B := by
  obtain ⟨hA, hB⟩ := uniform_counts X A B h
  funext i
  obtain ⟨t, c, rfl⟩ : ∃ (t : Fin 16) (c : Fin 1024), i = ix2 t c := ⟨i 0, i 1, eq_ix2 i⟩
  exact (kernelOut_read X t c).trans (refOut_read X A B hA hB t c).symm

end Cert.Proof

end
-- ==== Proof.lean ====
/- The claims: the kernel runs, over the words and over the extended reals; the reference runs; and where every count is 32 the two compute one function over the
   extended reals. The kernel's run is Proof/Launch.lean's, the equation Proof/Equation.lean's. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Pre_uniform
public import proofs.«01_k».proof.Proof.Launch
public import proofs.«01_k».proof.Proof.Equation
public import Idealize.ShloMosaic.Adequacy
public import Idealize.ShloMosaic.Init

@[expose] public section

noncomputable section

namespace Cert.Proof

open Idealize.ShloMosaic Idealize.SL.Sem

/-! ## The programs' runs -/

section
variable {F : FTy → Type} [FloatOps F]
attribute [local instance] Cert.Kernel.Gen.facts Cert.KernelIdeal.Gen.facts

/-- The two printings of the kernel have one table of kernel bodies. -/
theorem bodies_eq : Cert.Kernel.defs₀ (F := F) = Cert.KernelIdeal.defs₀ (F := F) := by
  funext p l a
  match p, l, a with
  | .tc, 0, _ => rfl
  | .tc, 1, (_, _) => rfl
  | .scScalar _, 0, _ => rfl
  | .scScalar _, 1, _ => rfl
  | .scVector _ _, 0, _ => rfl
  | .scVector _ _, 1, _ => rfl

/-- So they have one table of bodies altogether. -/
theorem defs_eq : Cert.Kernel.defs (F := F) = Cert.KernelIdeal.defs (F := F) :=
  congrArg (fun d => (Cert.KernelIdeal.sc (F := F)).defs (Pipeline.defs Cert.KernelIdeal.pcfgs d)) bodies_eq

end

/-- The kernel runs, its floats words: its arguments end unchanged and its semaphores at zero. -/
theorem frame_kernel : Cert.quiescent_Kernel (hKernel := Cert.Kernel.Gen.facts) := by
  intro m ρ _
  rw [defs_eq]
  exact (θ_run Cert.KernelIdeal.defs Cert.KernelIdeal.threads _).mono (fun _ (h : QC (F := Bits) m _) => ⟨fun c => ⟨(h.1 c).1, (h.1 c).2.1, (h.1 c).2.2.1⟩, h.2⟩)
    (run_main (F := Bits) m ρ)

/-- The same at the extended reals. -/
theorem frame_kernelIdeal : Cert.quiescent_KernelIdeal (hKernelIdeal := Cert.KernelIdeal.Gen.facts) := fun m ρ _ =>
  (θ_run Cert.KernelIdeal.defs _ _).mono (fun _ h => ⟨fun c => ⟨(h.1 c).1, (h.1 c).2.1, (h.1 c).2.2.1⟩, h.2⟩) (run_main (F := Ideal) m ρ)

/-- The reference runs: its arguments end unchanged, and it has no semaphores. -/
theorem frame_reference : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems (by decide) r.2⟩) (Cert.ReferenceIdeal.Value.run m ρ)

/-! ## The value -/

/-- From memories that agree on the arguments, every count 32, the kernel and the reference end with equal results. -/
theorem algebraic : Cert.algebraic_KernelIdeal_ReferenceIdeal_pre_uniform (hKernelIdeal := Cert.KernelIdeal.Gen.facts)
    (hReferenceIdeal := Cert.ReferenceIdeal.Gen.facts) (hPre_uniform := Cert.Pre_uniform.Gen.facts) := fun m ρ m' ρ' hpre hargs =>
by
  letI := Cert.ReferenceIdeal.Gen.facts
  letI := Cert.Pre_uniform.Gen.facts
  refine ⟨fun c => kernelOut (F := Ideal) (m (eLoc c)),
    (θ_run Cert.KernelIdeal.defs _ _).mono (fun _ h c => ⟨(h.1 c).2.2.2, (h.1 c).1, (h.1 c).2.1, (h.1 c).2.2.1⟩) (run_main (F := Ideal) m ρ),
    (θ_run Cert.ReferenceIdeal.defs _ _).mono (fun _ h c => ⟨(h c).1.trans ((res_eq m' c).trans ?_), (h c).2⟩) (Cert.ReferenceIdeal.Value.run m' ρ')⟩
  obtain ⟨h0, h1, h2⟩ := hargs c
  rw [h0, h1, h2]
  exact (kernelOut_eq_refOut _ _ _ (hpre c)).symm

/-- Every claim. -/
theorem claim : Cert.Claim := ⟨Cert.Kernel.Gen.facts, Cert.KernelIdeal.Gen.facts, Cert.ReferenceIdeal.Gen.facts, Cert.Pre_uniform.Gen.facts,
  frame_kernel, frame_kernelIdeal, fun m ρ _ => frame_kernelIdeal m ρ trivial, frame_reference, fun m ρ _ => frame_reference m ρ trivial, trivial, algebraic⟩

end Cert.Proof

end
